-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ring_and_finite [hPre_ring_and_finite : Cert.Pre_ring_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ring_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_ring_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_ring_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ring_and_finite [hPre_ring_and_finite : Cert.Pre_ring_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ring_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_ring_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_ring_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_ring_and_finite [hKernelIdeal : Cert.KernelIdeal.Facts] [hPre_ring_and_finite : Cert.Pre_ring_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ring_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_ring_and_finite [hReferenceIdeal : Cert.ReferenceIdeal.Facts] [hPre_ring_and_finite : Cert.Pre_ring_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ring_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_ring_and_finite [hKernelIdeal : Cert.KernelIdeal.Facts] [hReferenceIdeal : Cert.ReferenceIdeal.Facts] [hPre_ring_and_finite : Cert.Pre_ring_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ring_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_ring_and_finite : Cert.Pre_ring_and_finite.Facts),
    quiescent_Kernel (hKernel := hKernel)
    ∧ quiescent_KernelIdeal (hKernelIdeal := hKernelIdeal)
    ∧ quiescent_KernelIdeal_pre_ring_and_finite (hKernelIdeal := hKernelIdeal) (hPre_ring_and_finite := hPre_ring_and_finite)
    ∧ quiescent_ReferenceIdeal (hReferenceIdeal := hReferenceIdeal)
    ∧ quiescent_ReferenceIdeal_pre_ring_and_finite (hReferenceIdeal := hReferenceIdeal) (hPre_ring_and_finite := hPre_ring_and_finite)
    ∧ preserves_Kernel_KernelIdeal
    ∧ algebraic_KernelIdeal_ReferenceIdeal_pre_ring_and_finite (hKernelIdeal := hKernelIdeal) (hReferenceIdeal := hReferenceIdeal) (hPre_ring_and_finite := hPre_ring_and_finite)
-- ==== Pre_ring_and_finite.lean ====
abbrev S16384x512 : Shape := ⟨2, ![16384, 512]⟩
abbrev S2x128 : Shape := ⟨2, ![2, 128]⟩
abbrev S512x64 : Shape := ⟨2, ![512, 64]⟩
abbrev S64 : Shape := ⟨1, ![64]⟩
abbrev S1x16 : Shape := ⟨2, ![1, 16]⟩
abbrev S16 : Shape := ⟨1, ![16]⟩
abbrev S16x32 : Shape := ⟨2, ![16, 32]⟩
abbrev S32 : Shape := ⟨1, ![32]⟩
abbrev S32x16 : Shape := ⟨2, ![32, 16]⟩
abbrev S16x10 : Shape := ⟨2, ![16, 10]⟩
abbrev S10 : Shape := ⟨1, ![10]⟩
abbrev S_ : Shape := ⟨0, ![]⟩

class Facts : Prop where
  bcast_S_S2x128 : S_.BroadcastsInDim S2x128 (![] : Fin 0 → Fin S2x128.rank)
  bcast_S_S64 : S_.BroadcastsInDim S64 (![] : Fin 0 → Fin S64.rank)
  bcast_S_S1x16 : S_.BroadcastsInDim S1x16 (![] : Fin 0 → Fin S1x16.rank)

variable [Facts]

def fn_where {F : FTy → Type} [FloatOps F] (arg0 : IVec S2x128 1) (arg1 : IVec S2x128 32) (arg2 : IVec S2x128 32) : IVec S2x128 32 :=
  let v0 : IVec S2x128 32 := select arg0 arg1 arg2
  v0

def fn_part1 {F : FTy → Type} [FloatOps F] (main_arg4 : FVec F S1x16 .f32) (main_v14 : IVec S2x128 1) (main_v17 : IVec S64 1) : IVec S2x128 1 × IVec S64 1 × IVec S1x16 1 :=
  let main_v18 : FVec F S1x16 .f32 := Host.absf main_arg4
  let main_cst_4 : FVec F S_ .f32 := constant S_ .f32 0x7F800000#32
  let main_v19 : FVec F S1x16 .f32 := broadcastInDim S1x16 ![] bcast_S_S1x16 main_cst_4
  let main_v20 : IVec S1x16 1 := cmpf .olt main_v18 main_v19
  (main_v14, main_v17, main_v20)

def fn {F : FTy → Type} [FloatOps F] (main_arg0 : FVec F S16384x512 .f32) (main_arg1 : IVec S2x128 32) (main_arg2 : FVec F S512x64 .f32) (main_arg3 : FVec F S64 .f32) (main_arg4 : FVec F S1x16 .f32) (main_arg5 : FVec F S16 .f32) (main_arg6 : FVec F S16x32 .f32) (main_arg7 : FVec F S32 .f32) (main_arg8 : FVec F S32x16 .f32) (main_arg9 : FVec F S16 .f32) (main_arg10 : FVec F S16x10 .f32) (main_arg11 : FVec F S10 .f32) : IVec S2x128 1 × IVec S64 1 × IVec S1x16 1 :=
  let main_v0 : IVec S2x128 32 := iotaInDim S2x128 32 0
  let main_v1 : IVec S2x128 32 := iotaInDim S2x128 32 1
  let main_c : IVec S_ 32 := constantI S_ 32 64#32
  let main_v2 : IVec S2x128 32 := broadcastInDim S2x128 ![] bcast_S_S2x128 main_c
  let main_v3 : IVec S2x128 1 := cmpi .slt main_v1 main_v2
  let main_c_0 : IVec S_ 32 := constantI S_ 32 1#32
  let main_v4 : IVec S2x128 32 := broadcastInDim S2x128 ![] bcast_S_S2x128 main_c_0
  let main_v5 : IVec S2x128 32 := addi main_v1 main_v4
  let main_c_1 : IVec S_ 32 := constantI S_ 32 1#32
  let main_v6 : IVec S2x128 32 := broadcastInDim S2x128 ![] bcast_S_S2x128 main_c_1
  let main_v7 : IVec S2x128 32 := subi main_v1 main_v6
  let main_v8 : IVec S2x128 32 := fn_where (F := F) main_v3 main_v5 main_v7
  let main_c_2 : IVec S_ 32 := constantI S_ 32 0#32
  let main_v9 : IVec S2x128 32 := broadcastInDim S2x128 ![] bcast_S_S2x128 main_c_2
  let main_v10 : IVec S2x128 1 := cmpi .eq main_v0 main_v9
  let main_v11 : IVec S2x128 32 := fn_where (F := F) main_v10 main_v1 main_v8
  let main_c_3 : IVec S_ 32 := constantI S_ 32 63#32
  let main_v12 : IVec S2x128 32 := broadcastInDim S2x128 ![] bcast_S_S2x128 main_c_3
  let main_v13 : IVec S2x128 32 := andi main_v11 main_v12
  let main_v14 : IVec S2x128 1 := cmpi .eq main_arg1 main_v13
  let main_v15 : FVec F S64 .f32 := Host.absf main_arg3
  let main_cst : FVec F S_ .f32 := constant S_ .f32 0x7F800000#32
  let main_v16 : FVec F S64 .f32 := broadcastInDim S64 ![] bcast_S_S64 main_cst
  let main_v17 : IVec S64 1 := cmpf .olt main_v15 main_v16
  fn_part1 (F := F) main_arg4 main_v14 main_v17
-- ==== Kernel.lean ====
abbrev S16384x512 : Shape := ⟨2, ![16384, 512]⟩
abbrev S2x128 : Shape := ⟨2, ![2, 128]⟩
abbrev S512x64 : Shape := ⟨2, ![512, 64]⟩
abbrev S64 : Shape := ⟨1, ![64]⟩
abbrev S1x16 : Shape := ⟨2, ![1, 16]⟩
abbrev S16 : Shape := ⟨1, ![16]⟩
abbrev S16x32 : Shape := ⟨2, ![16, 32]⟩
abbrev S32 : Shape := ⟨1, ![32]⟩
abbrev S32x16 : Shape := ⟨2, ![32, 16]⟩
abbrev S16x10 : Shape := ⟨2, ![16, 10]⟩
abbrev S10 : Shape := ⟨1, ![10]⟩
abbrev S64x64 : Shape := ⟨2, ![64, 64]⟩
abbrev S_ : Shape := ⟨0, ![]⟩
abbrev S1x64 : Shape := ⟨2, ![1, 64]⟩
abbrev S63x64 : Shape := ⟨2, ![63, 64]⟩
abbrev S64x64x1 : Shape := ⟨3, ![64, 64, 1]⟩
abbrev S1x1x16 : Shape := ⟨3, ![1, 1, 16]⟩
abbrev S64x64x16 : Shape := ⟨3, ![64, 64, 16]⟩
abbrev S64x1024 : Shape := ⟨2, ![64, 1024]⟩
abbrev S64x1 : Shape := ⟨2, ![64, 1]⟩
abbrev S64x16 : Shape := ⟨2, ![64, 16]⟩
abbrev S1x1024 : Shape := ⟨2, ![1, 1024]⟩
abbrev S65x1024 : Shape := ⟨2, ![65, 1024]⟩
abbrev S8x8 : Shape := ⟨2, ![8, 8]⟩
abbrev S8x1x8x1 : Shape := ⟨4, ![8, 1, 8, 1]⟩
abbrev S1x16x1x32 : Shape := ⟨4, ![1, 16, 1, 32]⟩
abbrev S8x16x8x32 : Shape := ⟨4, ![8, 16, 8, 32]⟩
abbrev S128x256 : Shape := ⟨2, ![128, 256]⟩
abbrev S1x32 : Shape := ⟨2, ![1, 32]⟩
abbrev S8x32 : Shape := ⟨2, ![8, 32]⟩
abbrev S256 : Shape := ⟨1, ![256]⟩
abbrev S1x256 : Shape := ⟨2, ![1, 256]⟩
abbrev S1x10 : Shape := ⟨2, ![1, 10]⟩
abbrev S16384x10 : Shape := ⟨2, ![16384, 10]⟩
abbrev S4096x512 : Shape := ⟨2, ![4096, 512]⟩
abbrev S4096x10 : Shape := ⟨2, ![4096, 10]⟩
abbrev S4096x64 : Shape := ⟨2, ![4096, 64]⟩
abbrev S4096x1 : Shape := ⟨2, ![4096, 1]⟩
abbrev S4096x65 : Shape := ⟨2, ![4096, 65]⟩
abbrev S4096x1024 : Shape := ⟨2, ![4096, 1024]⟩
abbrev S4096x16 : Shape := ⟨2, ![4096, 16]⟩
abbrev S4096x1008 : Shape := ⟨2, ![4096, 1008]⟩
abbrev S4096x128 : Shape := ⟨2, ![4096, 128]⟩
abbrev S4096x256 : Shape := ⟨2, ![4096, 256]⟩
abbrev S4096x32 : Shape := ⟨2, ![4096, 32]⟩

abbrev nBuf : Space → Nat
  | .hbm => 78
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S2x128, .i32⟩
  | .hbm, ⟨2, _⟩ => ⟨S512x64, .f32⟩
  | .hbm, ⟨3, _⟩ => ⟨S64, .f32⟩
  | .hbm, ⟨4, _⟩ => ⟨S1x16, .f32⟩
  | .hbm, ⟨5, _⟩ => ⟨S16, .f32⟩
  | .hbm, ⟨6, _⟩ => ⟨S16x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x10, .f32⟩
  | .hbm, ⟨11, _⟩ => ⟨S10, .f32⟩
  | .hbm, ⟨12, _⟩ => ⟨S512x64, .bf16⟩
  | .hbm, ⟨13, _⟩ => ⟨S64x64, .i32⟩
  | .hbm, ⟨14, _⟩ => ⟨S64x64, .i32⟩
  | .hbm, ⟨15, _⟩ => ⟨S_, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S64x64, .f32⟩
  | .hbm, ⟨20, _⟩ => ⟨S1x64, .f32⟩
  | .hbm, ⟨21, _⟩ => ⟨S63x64, .f32⟩
  | .hbm, ⟨22, _⟩ => ⟨S64x64, .f32⟩
  | .hbm, ⟨23, _⟩ => ⟨S64x64, .f32⟩
  | .hbm, ⟨24, _⟩ => ⟨S63x64, .f32⟩
  | .hbm, ⟨25, _⟩ => ⟨S1x64, .f32⟩
  | .hbm, ⟨26, _⟩ => ⟨S64x64, .f32⟩
  | .hbm, ⟨27, _⟩ => ⟨S64x64, .f32⟩
  | .hbm, ⟨28, _⟩ => ⟨S_, .f32⟩
  | .hbm, ⟨29, _⟩ => ⟨S64x64, .f32⟩
  | .hbm, ⟨30, _⟩ => ⟨S64x64, .f32⟩
  | .hbm, ⟨31, _⟩ => ⟨S16, .f32⟩
  | .hbm, ⟨32, _⟩ => ⟨S64x64x1, .f32⟩
  | .hbm, ⟨33, _⟩ => ⟨S1x1x16, .f32⟩
  | .hbm, ⟨34, _⟩ => ⟨S64x64x16, .f32⟩
  | .hbm, ⟨35, _⟩ => ⟨S64x64x16, .f32⟩
  | .hbm, ⟨36, _⟩ => ⟨S64x64x16, .f32⟩
  | .hbm, ⟨37, _⟩ => ⟨S64x1024, .f32⟩
  | .hbm, ⟨38, _⟩ => ⟨S64x64, .f32⟩
  | .hbm, ⟨39, _⟩ => ⟨S64, .f32⟩
  | .hbm, ⟨40, _⟩ => ⟨S64x1, .f32⟩
  | .hbm, ⟨41, _⟩ => ⟨S1x16, .f32⟩
  | .hbm, ⟨42, _⟩ => ⟨S64x16, .f32⟩
  | .hbm, ⟨43, _⟩ => ⟨S64x16, .f32⟩
  | .hbm, ⟨44, _⟩ => ⟨S64x16, .f32⟩
  | .hbm, ⟨45, _⟩ => ⟨S1x16, .f32⟩
  | .hbm, ⟨46, _⟩ => ⟨S64x16, .f32⟩
  | .hbm, ⟨47, _⟩ => ⟨S64x16, .f32⟩
  | .hbm, ⟨48, _⟩ => ⟨S1x1024, .f32⟩
  | .hbm, ⟨49, _⟩ => ⟨S65x1024, .f32⟩
  | .hbm, ⟨50, _⟩ => ⟨S65x1024, .bf16⟩
  | .hbm, ⟨51, _⟩ => ⟨S8x8, .i32⟩
  | .hbm, ⟨52, _⟩ => ⟨S8x8, .i32⟩
  | .hbm, ⟨53, _⟩ => ⟨S_, .i32⟩
  | .hbm, ⟨54, _⟩ => ⟨S8x8, .i32⟩
  | .hbm, ⟨55, _⟩ => ⟨S8x8, .i32⟩
  | .hbm, ⟨56, _⟩ => ⟨S8x8, .i1⟩
  | .hbm, ⟨57, _⟩ => ⟨S8x8, .f32⟩
  | .hbm, ⟨58, _⟩ => ⟨S8x1x8x1, .f32⟩
  | .hbm, ⟨59, _⟩ => ⟨S1x16x1x32, .f32⟩
  | .hbm, ⟨60, _⟩ => ⟨S8x16x8x32, .f32⟩
  | .hbm, ⟨61, _⟩ => ⟨S8x16x8x32, .f32⟩
  | .hbm, ⟨62, _⟩ => ⟨S8x16x8x32, .f32⟩
  | .hbm, ⟨63, _⟩ => ⟨S128x256, .f32⟩
  | .hbm, ⟨64, _⟩ => ⟨S_, .f32⟩
  | .hbm, ⟨65, _⟩ => ⟨S128x256, .f32⟩
  | .hbm, ⟨66, _⟩ => ⟨S128x256, .f32⟩
  | .hbm, ⟨67, _⟩ => ⟨S128x256, .bf16⟩
  | .hbm, ⟨68, _⟩ => ⟨S1x32, .f32⟩
  | .hbm, ⟨69, _⟩ => ⟨S8x32, .f32⟩
  | .hbm, ⟨70, _⟩ => ⟨S256, .f32⟩
  | .hbm, ⟨71, _⟩ => ⟨S1x256, .f32⟩
  | .hbm, ⟨72, _⟩ => ⟨S_, .f32⟩
  | .hbm, ⟨73, _⟩ => ⟨S32x16, .f32⟩
  | .hbm, ⟨74, _⟩ => ⟨S32x16, .f32⟩
  | .hbm, ⟨75, _⟩ => ⟨S1x16, .f32⟩
  | .hbm, ⟨76, _⟩ => ⟨S1x10, .f32⟩
  | .hbm, ⟨77, _⟩ => ⟨S16384x10, .f32⟩
  | .local _ .vmem, ⟨0, _⟩ => ⟨S4096x512, .f32⟩
  | .local _ .vmem, ⟨1, _⟩ => ⟨S4096x512, .f32⟩
  | .local _ .vmem, ⟨2, _⟩ => ⟨S512x64, .bf16⟩
  | .local _ .vmem, ⟨3, _⟩ => ⟨S65x1024, .bf16⟩
  | .local _ .vmem, ⟨4, _⟩ => ⟨S128x256, .bf16⟩
  | .local _ .vmem, ⟨5, _⟩ => ⟨S1x256, .f32⟩
  | .local _ .vmem, ⟨6, _⟩ => ⟨S32x16, .f32⟩
  | .local _ .vmem, ⟨7, _⟩ => ⟨S1x16, .f32⟩
  | .local _ .vmem, ⟨8, _⟩ => ⟨S16x10, .f32⟩
  | .local _ .vmem, ⟨9, _⟩ => ⟨S1x10, .f32⟩
  | .local _ .vmem, ⟨10, _⟩ => ⟨S4096x10, .f32⟩
  | .local _ .vmem, ⟨11, _⟩ => ⟨S4096x10, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v39 : Ref sig .tc := ⟨.hbm, 63, rfl⟩
abbrev main_cst_1 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_2 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S65x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16384x512 : Shape := ⟨2, ![16384, 512]⟩
abbrev S2x128 : Shape := ⟨2, ![2, 128]⟩
abbrev S512x64 : Shape := ⟨2, ![512, 64]⟩
abbrev S64 : Shape := ⟨1, ![64]⟩
abbrev S1x16 : Shape := ⟨2, ![1, 16]⟩
abbrev S16 : Shape := ⟨1, ![16]⟩
abbrev S16x32 : Shape := ⟨2, ![16, 32]⟩
abbrev S32 : Shape := ⟨1, ![32]⟩
abbrev S32x16 : Shape := ⟨2, ![32, 16]⟩
abbrev S16x10 : Shape := ⟨2, ![16, 10]⟩
abbrev S10 : Shape := ⟨1, ![10]⟩
abbrev S16384x64 : Shape := ⟨2, ![16384, 64]⟩
abbrev S1x64 : Shape := ⟨2, ![1, 64]⟩
abbrev S1048576x1 : Shape := ⟨2, ![1048576, 1]⟩
abbrev S16384 : Shape := ⟨1, ![16384]⟩
abbrev S_ : Shape := ⟨0, ![]⟩
abbrev S2x128x1 : Shape := ⟨3, ![2, 128, 1]⟩
abbrev S1x1x16384 : Shape := ⟨3, ![1, 1, 16384]⟩
abbrev S2x128x16384 : Shape := ⟨3, ![2, 128, 16384]⟩
abbrev S2x16384x128 : Shape := ⟨3, ![2, 16384, 128]⟩
abbrev S2x2097152 : Shape := ⟨2, ![2, 2097152]⟩
abbrev S1x2097152 : Shape := ⟨2, ![1, 2097152]⟩
abbrev S2097152 : Shape := ⟨1, ![2097152]⟩
abbrev S1048576 : Shape := ⟨1, ![1048576]⟩
abbrev S3145728 : Shape := ⟨1, ![3145728]⟩
abbrev S3145728x1 : Shape := ⟨2, ![3145728, 1]⟩
abbrev S1048576x16 : Shape := ⟨2, ![1048576, 16]⟩
abbrev S3145728x16 : Shape := ⟨2, ![3145728, 16]⟩
abbrev S1048576x32 : Shape := ⟨2, ![1048576, 32]⟩
abbrev S3145728x32 : Shape := ⟨2, ![3145728, 32]⟩
abbrev S1x32 : Shape := ⟨2, ![1, 32]⟩
abbrev S16384x64x32 : Shape := ⟨3, ![16384, 64, 32]⟩
abbrev S16384x32 : Shape := ⟨2, ![16384, 32]⟩
abbrev S16384x16 : Shape := ⟨2, ![16384, 16]⟩
abbrev S16384x10 : Shape := ⟨2, ![16384, 10]⟩
abbrev S1x10 : Shape := ⟨2, ![1, 10]⟩

abbrev nBuf : Space → Nat
  | .hbm => 180
  | .vmem => 0
  | .smem => 0
  | _ => 0

abbrev hbmTy0_0 (i : Nat) : BufTy := match i % 128 with
  | 0 => ⟨S16384x512, .f32⟩
  | 1 => ⟨S2x128, .i32⟩
  | 2 => ⟨S512x64, .f32⟩
  | 3 => ⟨S64, .f32⟩
  | 4 => ⟨S1x16, .f32⟩
  | 5 => ⟨S16, .f32⟩
  | 6 => ⟨S16x32, .f32⟩
  | 7 => ⟨S32, .f32⟩
  | 8 => ⟨S32x16, .f32⟩
  | 9 => ⟨S16, .f32⟩
  | 10 => ⟨S16x10, .f32⟩
  | 11 => ⟨S10, .f32⟩
  | 12 => ⟨S16384x64, .f32⟩
  | 13 => ⟨S1x64, .f32⟩
  | 14 => ⟨S16384x64, .f32⟩
  | 15 => ⟨S16384x64, .f32⟩
  | 16 => ⟨S1048576x1, .f32⟩
  | 17 => ⟨S16384, .i32⟩
  | 18 => ⟨S_, .i32⟩
  | 19 => ⟨S16384, .i32⟩
  | 20 => ⟨S16384, .i32⟩
  | 21 => ⟨S_, .i32⟩
  | 22 => ⟨S16384, .i32⟩
  | 23 => ⟨S16384, .i32⟩
  | 24 => ⟨S2x128x1, .i32⟩
  | 25 => ⟨S1x1x16384, .i32⟩
  | 26 => ⟨S2x128x16384, .i32⟩
  | 27 => ⟨S2x128x16384, .i32⟩
  | 28 => ⟨S2x128x16384, .i32⟩
  | 29 => ⟨S2x16384x128, .i32⟩
  | 30 => ⟨S2x2097152, .i32⟩
  | 31 => ⟨S1x2097152, .i32⟩
  | 32 => ⟨S2097152, .i32⟩
  | 33 => ⟨S1x2097152, .i32⟩
  | 34 => ⟨S2097152, .i32⟩
  | 35 => ⟨S1048576, .i32⟩
  | 36 => ⟨S3145728, .i32⟩
  | 37 => ⟨S3145728, .i32⟩
  | 38 => ⟨S_, .f32⟩
  | 39 => ⟨S3145728, .f32⟩
  | 40 => ⟨S_, .f32⟩
  | 41 => ⟨S1048576, .f32⟩
  | 42 => ⟨S3145728x1, .i32⟩
  | 43 => ⟨S1048576, .f32⟩
  | 44 => ⟨S_, .f32⟩
  | 45 => ⟨S1048576, .f32⟩
  | 46 => ⟨S1048576, .i1⟩
  | 47 => ⟨S1048576, .f32⟩
  | 48 => ⟨S_, .f32⟩
  | 49 => ⟨S1048576, .f32⟩
  | 50 => ⟨S1048576, .f32⟩
  | 51 => ⟨S_, .f32⟩
  | 52 => ⟨S_, .f32⟩
  | 53 => ⟨S1048576, .f32⟩
  | 54 => ⟨S1048576, .f32⟩
  | 55 => ⟨S_, .i32⟩
  | 56 => ⟨S3145728, .i32⟩
  | 57 => ⟨S3145728, .i1⟩
  | 58 => ⟨S_, .i32⟩
  | 59 => ⟨S3145728, .i32⟩
  | 60 => ⟨S3145728, .i32⟩
  | 61 => ⟨S3145728, .i32⟩
  | 62 => ⟨S3145728x1, .i32⟩
  | 63 => ⟨S3145728, .f32⟩
  | 64 => ⟨S_, .i32⟩
  | 65 => ⟨S3145728, .i32⟩
  | 66 => ⟨S3145728, .i1⟩
  | 67 => ⟨S_, .i32⟩
  | 68 => ⟨S3145728, .i32⟩
  | 69 => ⟨S3145728, .i32⟩
  | 70 => ⟨S3145728, .i32⟩
  | 71 => ⟨S3145728x1, .i32⟩
  | 72 => ⟨S3145728, .f32⟩
  | 73 => ⟨S3145728, .f32⟩
  | 74 => ⟨S1048576x16, .f32⟩
  | 75 => ⟨S_, .i32⟩
  | 76 => ⟨S3145728, .i32⟩
  | 77 => ⟨S3145728, .i1⟩
  | 78 => ⟨S_, .i32⟩
  | 79 => ⟨S3145728, .i32⟩
  | 80 => ⟨S3145728, .i32⟩
  | 81 => ⟨S3145728, .i32⟩
  | 82 => ⟨S3145728x1, .i32⟩
  | 83 => ⟨S3145728x16, .f32⟩
  | 84 => ⟨S3145728x1, .f32⟩
  | 85 => ⟨S3145728x16, .f32⟩
  | 86 => ⟨S3145728x16, .f32⟩
  | 87 => ⟨S_, .f32⟩
  | 88 => ⟨S1048576x16, .f32⟩
  | 89 => ⟨S3145728x1, .i32⟩
  | 90 => ⟨S1048576x16, .f32⟩
  | 91 => ⟨S1x16, .f32⟩
  | 92 => ⟨S1048576x16, .f32⟩
  | 93 => ⟨S1048576x16, .f32⟩
  | 94 => ⟨S_, .f32⟩
  | 95 => ⟨S1048576x16, .f32⟩
  | 96 => ⟨S1048576x16, .f32⟩
  | 97 => ⟨S1x2097152, .i32⟩
  | 98 => ⟨S2097152, .i32⟩
  | 99 => ⟨S1x2097152, .i32⟩
  | 100 => ⟨S2097152, .i32⟩
  | 101 => ⟨S1048576, .i32⟩
  | 102 => ⟨S3145728, .i32⟩
  | 103 => ⟨S3145728, .i32⟩
  | 104 => ⟨S_, .f32⟩
  | 105 => ⟨S3145728, .f32⟩
  | 106 => ⟨S_, .f32⟩
  | 107 => ⟨S1048576, .f32⟩
  | 108 => ⟨S3145728x1, .i32⟩
  | 109 => ⟨S1048576, .f32⟩
  | 110 => ⟨S_, .f32⟩
  | 111 => ⟨S1048576, .f32⟩
  | 112 => ⟨S1048576, .i1⟩
  | 113 => ⟨S1048576, .f32⟩
  | 114 => ⟨S_, .f32⟩
  | 115 => ⟨S1048576, .f32⟩
  | 116 => ⟨S1048576, .f32⟩
  | 117 => ⟨S_, .f32⟩
  | 118 => ⟨S_, .f32⟩
  | 119 => ⟨S1048576, .f32⟩
  | 120 => ⟨S1048576, .f32⟩
  | 121 => ⟨S_, .i32⟩
  | 122 => ⟨S3145728, .i32⟩
  | 123 => ⟨S3145728, .i1⟩
  | 124 => ⟨S_, .i32⟩
  | 125 => ⟨S3145728, .i32⟩
  | 126 => ⟨S3145728, .i32⟩
  | 127 => ⟨S3145728, .i32⟩
  | _ => ⟨S16384x512, .f32⟩

abbrev hbmTy0_1 (i : Nat) : BufTy := match i % 128 with
  | 0 => ⟨S3145728x1, .i32⟩
  | 1 => ⟨S3145728, .f32⟩
  | 2 => ⟨S_, .i32⟩
  | 3 => ⟨S3145728, .i32⟩
  | 4 => ⟨S3145728, .i1⟩
  | 5 => ⟨S_, .i32⟩
  | 6 => ⟨S3145728, .i32⟩
  | 7 => ⟨S3145728, .i32⟩
  | 8 => ⟨S3145728, .i32⟩
  | 9 => ⟨S3145728x1, .i32⟩
  | 10 => ⟨S3145728, .f32⟩
  | 11 => ⟨S3145728, .f32⟩
  | 12 => ⟨S1048576x32, .f32⟩
  | 13 => ⟨S_, .i32⟩
  | 14 => ⟨S3145728, .i32⟩
  | 15 => ⟨S3145728, .i1⟩
  | 16 => ⟨S_, .i32⟩
  | 17 => ⟨S3145728, .i32⟩
  | 18 => ⟨S3145728, .i32⟩
  | 19 => ⟨S3145728, .i32⟩
  | 20 => ⟨S3145728x1, .i32⟩
  | 21 => ⟨S3145728x32, .f32⟩
  | 22 => ⟨S3145728x1, .f32⟩
  | 23 => ⟨S3145728x32, .f32⟩
  | 24 => ⟨S3145728x32, .f32⟩
  | 25 => ⟨S_, .f32⟩
  | 26 => ⟨S1048576x32, .f32⟩
  | 27 => ⟨S3145728x1, .i32⟩
  | 28 => ⟨S1048576x32, .f32⟩
  | 29 => ⟨S1x32, .f32⟩
  | 30 => ⟨S1048576x32, .f32⟩
  | 31 => ⟨S1048576x32, .f32⟩
  | 32 => ⟨S_, .f32⟩
  | 33 => ⟨S1048576x32, .f32⟩
  | 34 => ⟨S1048576x32, .f32⟩
  | 35 => ⟨S16384x64x32, .f32⟩
  | 36 => ⟨S_, .f32⟩
  | 37 => ⟨S16384x32, .f32⟩
  | 38 => ⟨S_, .f32⟩
  | 39 => ⟨S16384x32, .f32⟩
  | 40 => ⟨S16384x32, .f32⟩
  | 41 => ⟨S16384x16, .f32⟩
  | 42 => ⟨S1x16, .f32⟩
  | 43 => ⟨S16384x16, .f32⟩
  | 44 => ⟨S16384x16, .f32⟩
  | 45 => ⟨S_, .f32⟩
  | 46 => ⟨S16384x16, .f32⟩
  | 47 => ⟨S16384x16, .f32⟩
  | 48 => ⟨S16384x10, .f32⟩
  | 49 => ⟨S1x10, .f32⟩
  | 50 => ⟨S16384x10, .f32⟩
  | 51 => ⟨S16384x10, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_call0_v0 : Ref sig .tc := ⟨.hbm, 52, rfl⟩
abbrev main_call0_v1 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_7 : Ref sig .tc := ⟨.hbm, 64, rfl⟩
abbrev main_v41 : Ref sig .tc := ⟨.hbm, 65, rfl⟩
abbrev main_v42 : Ref sig .tc := ⟨.hbm, 66, rfl⟩
abbrev main_c_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call1_cst : Ref sig .tc := ⟨.hbm, 94, rfl⟩
abbrev main_call1_v0 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_12 : Ref sig .tc := ⟨.hbm, 104, rfl⟩
abbrev main_v74 : Ref sig .tc := ⟨.hbm, 105, rfl⟩
abbrev main_cst_13 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_15 : Ref sig .tc := ⟨.hbm, 114, rfl⟩
abbrev main_v81 : Ref sig .tc := ⟨.hbm, 115, rfl⟩
abbrev main_v82 : Ref sig .tc := ⟨.hbm, 116, rfl⟩
abbrev main_cst_16 : Ref sig .tc := ⟨.hbm, 117, rfl⟩
abbrev main_call2_v0 : Ref sig .tc := ⟨.hbm, 118, rfl⟩
abbrev main_call2_v1 : Ref sig .tc := ⟨.hbm, 119, rfl⟩
abbrev main_v83 : Ref sig .tc := ⟨.hbm, 120, rfl⟩
abbrev main_c_17 : Ref sig .tc := ⟨.hbm, 121, rfl⟩
abbrev main_v84 : Ref sig .tc := ⟨.hbm, 122, rfl⟩
abbrev main_v85 : Ref sig .tc := ⟨.hbm, 123, rfl⟩
abbrev main_c_18 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_19 : Ref sig .tc := ⟨.hbm, 130, rfl⟩
abbrev main_v91 : Ref sig .tc := ⟨.hbm, 131, rfl⟩
abbrev main_v92 : Ref sig .tc := ⟨.hbm, 132, rfl⟩
abbrev main_c_20 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_c_21 : Ref sig .tc := ⟨.hbm, 141, rfl⟩
abbrev main_v100 : Ref sig .tc := ⟨.hbm, 142, rfl⟩
abbrev main_v101 : Ref sig .tc := ⟨.hbm, 143, rfl⟩
abbrev main_c_22 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_23 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_call3_cst : Ref sig .tc := ⟨.hbm, 160, rfl⟩
abbrev main_call3_v0 : Ref sig .tc := ⟨.hbm, 161, rfl⟩
abbrev main_v116 : Ref sig .tc := ⟨.hbm, 162, rfl⟩
abbrev main_v117 : Ref sig .tc := ⟨.hbm, 163, rfl⟩
abbrev main_cst_24 : Ref sig .tc := ⟨.hbm, 164, rfl⟩
abbrev main_v118 : Ref sig .tc := ⟨.hbm, 165, rfl⟩
abbrev main_cst_25 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_call4_cst : Ref sig .tc := ⟨.hbm, 173, rfl⟩
abbrev main_call4_v0 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩

abbrev nD : Nat := 1
abbrev τ : Topo := Topo.v7x

variable {F : FTy → Type} [FloatOps F]
-- ==== Proof.Ring.lean ====
/-
  The ring over 64 nodes as numbers: the two ends of each of its 128 edges, a node's two neighbours, and the ends of every
  edge of 16384 copies of it with a self-loop per node. The one counting fact: which edges end at a given node.
-/
module

public import Idealize.ShloMosaic.Lib.ValueIdx
public import Idealize.ShloMosaic.PureOps.Ideal

@[expose] public section

noncomputable section

namespace Cert.Ring

/-- Edge `e` of the ring leaves node `e mod 64`. -/
def tail (e : Nat) : Nat := e % 64

/-- The first 64 edges go one node up, the other 64 one node down. -/
def head (e : Nat) : Nat := if e < 64 then (e + 1) % 64 else (e + 63) % 64

/-- The node before. -/
def prv (n : Fin 64) : Fin 64 := ⟨(n.val + 63) % 64, Nat.mod_lt _ (by decide)⟩

/-- The node after. -/
def nxt (n : Fin 64) : Fin 64 := ⟨(n.val + 1) % 64, Nat.mod_lt _ (by decide)⟩

/-- Node `v` of graph `b` among all the graphs' nodes. -/
def node (b : Fin 16384) (v : Fin 64) : Fin 1048576 := ⟨64 * b.val + v.val, by have := b.isLt; have := v.isLt; omega⟩

/-- An edge's end in all the graphs, from its end in one: below 2097152 the edges of the graphs, 128 each; above, the
    self-loops. -/
def all (f : Nat → Nat) (e : Nat) : Nat := if e < 2097152 then f (e % 128) + 64 * (e / 128) else e - 2097152

/-- The edge that comes up into node `v` of graph `b`. -/
def up (b : Fin 16384) (v : Fin 64) : Fin 3145728 := ⟨128 * b.val + (v.val + 63) % 64, by have := b.isLt; omega⟩

/-- The edge that comes down into node `v` of graph `b`. -/
def down (b : Fin 16384) (v : Fin 64) : Fin 3145728 := ⟨128 * b.val + 64 + (v.val + 1) % 64, by have := b.isLt; omega⟩

/-- The self-loop at node `v` of graph `b`. -/
def loop (b : Fin 16384) (v : Fin 64) : Fin 3145728 :=
  ⟨2097152 + 64 * b.val + v.val, by have := b.isLt; have := v.isLt; omega⟩

/-- Every edge's tail is a node. -/
theorem all_tail_lt (e : Fin 3145728) : all tail e.val < 1048576 := by
  have := e.isLt
  unfold all tail
  split <;> omega

/-- Every edge's head is a node. -/
theorem all_head_lt (e : Fin 3145728) : all head e.val < 1048576 := by
  have := e.isLt
  unfold all head
  split
  · split <;> omega
  · omega

/-- The edge from the node before starts there. -/
theorem tail_up (b : Fin 16384) (v : Fin 64) : all tail (up b v).val = (node b (prv v)).val := by
  have := b.isLt; have := v.isLt
  unfold all
  split <;> simp only [tail, up, node, prv] at * <;> omega

/-- The edge from the node after starts there. -/
theorem tail_down (b : Fin 16384) (v : Fin 64) : all tail (down b v).val = (node b (nxt v)).val := by
  have := b.isLt; have := v.isLt
  unfold all
  split <;> simp only [tail, down, node, nxt] at * <;> omega

/-- The self loop starts at its node. -/
theorem tail_loop (b : Fin 16384) (v : Fin 64) : all tail (loop b v).val = (node b v).val := by
  have := b.isLt; have := v.isLt
  unfold all
  split <;> simp only [tail, loop, node] at * <;> omega

/-- The edges that end at node `v` of graph `b` are the one from the node before, the one from the node after and the
    self-loop. -/
theorem ends_at (b : Fin 16384) (v : Fin 64) (e : Fin 3145728) :
    all head e.val = (node b v).val ↔ e = up b v ∨ e = down b v ∨ e = loop b v := by
  have := b.isLt; have := v.isLt; have := e.isLt
  simp only [Fin.ext_iff, all, head, up, down, loop, node]
  split
  · split <;> omega
  · omega

/-- The edges from the two neighbours differ. -/
theorem up_ne_down (b : Fin 16384) (v : Fin 64) : up b v ≠ down b v := fun h => by
  have := v.isLt
  have := congrArg Fin.val h
  simp only [up, down] at this
  omega

/-- The edge from the node before is not the self loop. -/
theorem up_ne_loop (b : Fin 16384) (v : Fin 64) : up b v ≠ loop b v := fun h => by
  have := b.isLt
  have := congrArg Fin.val h
  simp only [up, loop] at this
  omega

/-- The edge from the node after is not the self loop. -/
theorem down_ne_loop (b : Fin 16384) (v : Fin 64) : down b v ≠ loop b v := fun h => by
  have := b.isLt
  have := congrArg Fin.val h
  simp only [down, loop] at this
  omega

end Cert.Ring

end
-- ==== Proof.Spec.lean ====
/-
  The function both programs compute, for one graph: two rounds of averaging over the ring's three-node neighbourhoods,
  each after a linear map and before a cut-off at zero, then the sum over the nodes and the classifier. Its arguments
  are plain functions. The two constants the programs divide by are read here too.
-/
module

public import proofs.«01_k».proof.Proof.Ring
public import Idealize.ShloMosaic.Lib.Pointwise

@[expose] public section

noncomputable section

namespace Cert.Spec

open Idealize.ShloMosaic

/-- One third, the factor of every edge. -/
def third : EReal := ((1 / 3 : ℝ) : EReal)

/-- One sixty-fourth, the factor of the mean over a graph's nodes. -/
def per64 : EReal := ((1 / 64 : ℝ) : EReal)

/-- The first layer at node `v`, feature `z`, from the encoder's output without its bias, `a`, and the bias `be`. -/
def first (a be : Fin 64 → EReal) (w b1 : Fin 16 → EReal) (v : Fin 64) (z : Fin 16) : EReal :=
  max ((a (Ring.prv v) + be (Ring.prv v)) * w z * third + (a (Ring.nxt v) + be (Ring.nxt v)) * w z * third
    + (a v + be v) * w z * third + b1 z) 0

/-- The second layer at node `v`, feature `k`, from the first's output `h`. -/
def second (h : Fin 64 → Fin 16 → EReal) (w : Fin 16 → Fin 32 → EReal) (b2 : Fin 32 → EReal) (v : Fin 64) (k : Fin 32) : EReal :=
  max ((∑ j, h (Ring.prv v) j * w j k) * third + (∑ j, h (Ring.nxt v) j * w j k) * third + (∑ j, h v j * w j k) * third + b2 k) 0

/-- The classifier on a graph's feature sums `p`. -/
def classify (p : Fin 32 → EReal) (wc1 : Fin 32 → Fin 16 → EReal) (bc1 : Fin 16 → EReal) (wc2 : Fin 16 → Fin 10 → EReal)
    (bc2 : Fin 10 → EReal) (q : Fin 10) : EReal :=
  ∑ j, max (∑ k, p k * per64 * wc1 k j + bc1 j) 0 * wc2 j q + bc2 q

/-- The whole function at class `q`. -/
def out (a be : Fin 64 → EReal) (w b1 : Fin 16 → EReal) (w2 : Fin 16 → Fin 32 → EReal) (b2 : Fin 32 → EReal)
    (wc1 : Fin 32 → Fin 16 → EReal) (bc1 : Fin 16 → EReal) (wc2 : Fin 16 → Fin 10 → EReal) (bc2 : Fin 10 → EReal) (q : Fin 10) : EReal :=
  classify (fun k => ∑ v, second (first a be w b1) w2 b2 v k) wc1 bc1 wc2 bc2 q

/-- Division by a real that is not zero is multiplication by its inverse. -/
theorem div_real (x : EReal) (r : ℝ) (hr : r ≠ 0) : Ideal.div x ((r : ℝ) : EReal) = x * ((1 / r : ℝ) : EReal) := by
  unfold Ideal.div
  rw [if_neg (by exact_mod_cast hr), ← EReal.coe_inv, one_div]

/-- The word `0x40400000` is three. -/
theorem bits_three : Ideal.ofBits .f32 1077936128#32 = ((3 : ℝ) : EReal) := by
  simp [Ideal.ofBits, Ideal.ieee, -EReal.coe_mul]
  norm_num

/-- The word `0x42800000` is sixty-four. -/
theorem bits_64 : Ideal.ofBits .f32 1115684864#32 = ((64 : ℝ) : EReal) := by
  simp [Ideal.ofBits, Ideal.ieee, -EReal.coe_mul]
  norm_num

/-- Division by the word of three. -/
theorem div_three (x : EReal) : Ideal.div x (Ideal.ofBits .f32 1077936128#32) = x * third := by
  rw [bits_three, div_real x 3 (by norm_num)]; rfl

/-- Division by the word of sixty-four. -/
theorem div_64 (x : EReal) : Ideal.div x (Ideal.ofBits .f32 1115684864#32) = x * per64 := by
  rw [bits_64, div_real x 64 (by norm_num)]; rfl

end Cert.Spec

end
-- ==== Proof.Land.lean ====
/-
  Where the updates of a segment sum land, at any extents: a float `stablehlo.scatter` with an `add` body whose update
  row `e` goes to the operand row named by one index word, read at one element as the sum of the updates whose word
  names that element's row. Nothing here names a program.
-/
module

public import Idealize.ShloMosaic.Lib.Routing.OpsPair
public import Idealize.ShloMosaic.Lib.ValueIdx
public import Idealize.ShloMosaic.PureOps.Ideal

@[expose] public section

noncomputable section

namespace Cert.Land

open Idealize.ShloMosaic Idealize.ShloMosaic.ValueIdx Idealize.ShloMosaic.Routing

/-- An axis of a matrix that is not the axis 1 is the axis 0. -/
theorem axis_zero {l : List (Fin 2)} (hl : l = [1]) {k : Fin 2} (hk : k ∉ l) : k = 0 := by
  rw [hl, List.mem_singleton] at hk
  have : k.val ≠ 1 := fun e => hk (Fin.ext e)
  exact Fin.ext (by have := k.isLt; show k.val = 0; omega)

/-- The update `(e, y)` of a scatter of rows, one index word per row, lands at `(n, z)` exactly when row `e`'s word,
    read signed, is `n`, and the columns are the same. -/
theorem lands_row {N C M w : Nat} (d : ScatterDims (shape2 N C) (shape2 M 1) (shape2 M C))
    (huw : d.updateWindowDims = [1]) (hiw : d.insertedWindowDims = [0]) (hsd : d.scatterDimsToOperandDims = [0])
    (hivd : d.indexVectorDim = 1) (idx : IVec (shape2 M 1) w) (e : Fin M) (y : Fin C) (n : Fin N) (z : Fin C) :
    d.resultIdx? (ix2 e y) idx = some (ix2 n z) ↔ (idx (ix2 e (0 : Fin 1))).toInt = n.val ∧ y = z := by
  have hm0 : (0 : Fin 2) ∈ d.scatterDimsToOperandDims := by rw [hsd]; exact List.mem_singleton.2 rfl
  have hm1 : (1 : Fin 2) ∉ d.scatterDimsToOperandDims := by rw [hsd]; simp
  have hk0 : (0 : Fin 2) ∉ d.sKept := fun h => (of_decide_eq_true (List.mem_filter.1 h).2) (by rw [hiw]; simp)
  have hk1 : (1 : Fin 2) ∈ d.sKept := List.mem_filter.2 ⟨List.mem_finRange _, by rw [hiw]; simp⟩
  have hu0 : ∀ k ∈ d.uScatter, k = (0 : Fin 2) := fun k hk =>
    axis_zero huw (of_decide_eq_true (List.mem_filter.1 hk).2)
  have hw : ∀ k ∈ d.updateWindowDims, k = (1 : Fin 2) := fun k hk => by rw [huw] at hk; exact List.mem_singleton.1 hk
  have e0 : ∀ X : Fin 2, X = 0 → (ix2 e y X).val = e.val := fun X h => by subst h; rfl
  have e1 : ∀ X : Fin 2, X = 1 → (ix2 e y X).val = y.val := fun X h => by subst h; rfl
  have hsi : d.siIdx (ix2 e y) ⟨d.scatterDimsToOperandDims.idxOf 0, List.idxOf_lt_length_iff.2 hm0⟩ = ix2 e (0 : Fin 1) := by
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hu0 _ (List.getElem_mem _))
    | ⟨1, _⟩ =>
      unfold ScatterDims.siIdx
      rw [dif_pos (by rw [hivd])]
      show List.idxOf (0 : Fin 2) d.scatterDimsToOperandDims = 0
      rw [hsd]; simp
  have hw1 : d.window (ix2 e y) 1 = y.val := by
    unfold ScatterDims.window
    rw [dif_pos hk1]
    exact e1 _ (hw _ (List.getElem_mem _))
  have hw0 : d.window (ix2 e y) 0 = 0 := by
    unfold ScatterDims.window
    rw [dif_neg hk0]
  have hs0 : d.start (ix2 e y) idx 0 = (idx (ix2 e (0 : Fin 1))).toInt := by
    unfold ScatterDims.start
    rw [dif_pos hm0, hsi]
  have hs1 : d.start (ix2 e y) idx 1 = 0 := by
    unfold ScatterDims.start
    rw [dif_neg hm1]
  rw [resultIdx?_ix2, hs0, hs1, hw0, hw1, Fin.ext_iff]
  omega

/-- The update `e` of a scatter of scalars into a vector, one index word each, lands at `n` exactly when its word,
    read signed, is `n`. -/
theorem lands_one {N M w : Nat} (d : ScatterDims (shape1 N) (shape2 M 1) (shape1 M))
    (huw : d.updateWindowDims = []) (hiw : d.insertedWindowDims = [0]) (hsd : d.scatterDimsToOperandDims = [0])
    (hivd : d.indexVectorDim = 1) (idx : IVec (shape2 M 1) w) (e : Fin M) (n : Fin N) :
    d.resultIdx? (ix1 e) idx = some (ix1 n) ↔ (idx (ix2 e (0 : Fin 1))).toInt = n.val := by
  have hm0 : (0 : Fin 1) ∈ d.scatterDimsToOperandDims := by rw [hsd]; exact List.mem_singleton.2 rfl
  have hk0 : (0 : Fin 1) ∉ d.sKept := fun h => (of_decide_eq_true (List.mem_filter.1 h).2) (by rw [hiw]; simp)
  have e0 : ∀ X : Fin 1, (ix1 e X).val = e.val := fun X => by
    rw [show X = 0 from Subsingleton.elim _ _]
  have hsi : d.siIdx (ix1 e) ⟨d.scatterDimsToOperandDims.idxOf 0, List.idxOf_lt_length_iff.2 hm0⟩ = ix2 e (0 : Fin 1) := by
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _
    | ⟨1, _⟩ =>
      unfold ScatterDims.siIdx
      rw [dif_pos (by rw [hivd])]
      show List.idxOf (0 : Fin 1) d.scatterDimsToOperandDims = 0
      rw [hsd]; simp
  have hw0 : d.window (ix1 e) 0 = 0 := by
    unfold ScatterDims.window
    rw [dif_neg hk0]
  have hs0 : d.start (ix1 e) idx 0 = (idx (ix2 e (0 : Fin 1))).toInt := by
    unfold ScatterDims.start
    rw [dif_pos hm0, hsi]
  rw [resultIdx?_ix1, hs0, hw0]
  omega

/-- A segment sum of rows, read at `(n, z)`: the operand's element plus the column-`z` elements of the rows whose index
    word is `n`. -/
theorem segment_row {N C M w : Nat} (d : ScatterDims (shape2 N C) (shape2 M 1) (shape2 M C))
    (huw : d.updateWindowDims = [1]) (hiw : d.insertedWindowDims = [0]) (hsd : d.scatterDimsToOperandDims = [0])
    (hivd : d.indexVectorDim = 1) (x : (shape2 N C).Idx → EReal) (idx : IVec (shape2 M 1) w)
    (upd : (shape2 M C).Idx → EReal) (n : Fin N) (z : Fin C) :
    Ideal.hostScatterAdd d x idx upd (ix2 n z)
      = x (ix2 n z) + ∑ e ∈ Finset.univ.filter (fun e : Fin M => (idx (ix2 e (0 : Fin 1))).toInt = n.val), upd (ix2 e z) := by
  unfold Ideal.hostScatterAdd
  congr 1
  rw [Finset.sum_filter, sum_idx2, Finset.sum_filter]
  refine Finset.sum_congr rfl fun e _ => ?_
  simp only [lands_row d huw hiw hsd hivd]
  by_cases h : (idx (ix2 e (0 : Fin 1))).toInt = n.val
  · simp only [h, true_and, if_true]
    rw [Finset.sum_ite_eq']
    simp
  · simp only [h, false_and, if_false, Finset.sum_const_zero]

/-- A segment sum of scalars, read at `n`: the operand's element plus the updates whose index word is `n`. -/
theorem segment_one {N M w : Nat} (d : ScatterDims (shape1 N) (shape2 M 1) (shape1 M))
    (huw : d.updateWindowDims = []) (hiw : d.insertedWindowDims = [0]) (hsd : d.scatterDimsToOperandDims = [0])
    (hivd : d.indexVectorDim = 1) (x : (shape1 N).Idx → EReal) (idx : IVec (shape2 M 1) w)
    (upd : (shape1 M).Idx → EReal) (n : Fin N) :
    Ideal.hostScatterAdd d x idx upd (ix1 n)
      = x (ix1 n) + ∑ e ∈ Finset.univ.filter (fun e : Fin M => (idx (ix2 e (0 : Fin 1))).toInt = n.val), upd (ix1 e) := by
  unfold Ideal.hostScatterAdd
  congr 1
  rw [Finset.sum_filter, Finset.sum_filter]
  refine (Fintype.sum_equiv (⟨fun e => ix1 e, fun i => i 0, fun _ => rfl, fun i => (eq_ix1 i).symm⟩ : Fin M ≃ (shape1 M).Idx) _ _
    fun e => ?_).symm
  show _ = if d.resultIdx? (ix1 e) idx = some (ix1 n) then upd (ix1 e) else 0
  simp only [lands_one d huw hiw hsd hivd]

/-- A sum over the places where a property holds, which are three. -/
theorem sum_three {M : Nat} (e1 e2 e3 : Fin M) (h12 : e1 ≠ e2) (h13 : e1 ≠ e3) (h23 : e2 ≠ e3) (p : Fin M → Prop) [DecidablePred p]
    (hp : ∀ e, p e ↔ e = e1 ∨ e = e2 ∨ e = e3) (f : Fin M → EReal) :
    ∑ e ∈ Finset.univ.filter p, f e = f e1 + f e2 + f e3 := by
  have hs : Finset.univ.filter p = {e1, e2, e3} := by
    ext e
    simp only [Finset.mem_filter, Finset.mem_univ, true_and, Finset.mem_insert, Finset.mem_singleton]
    exact hp e
  rw [hs, Finset.sum_insert (by simp [h12, h13]), Finset.sum_insert (by simp [h23]), Finset.sum_singleton, add_assoc]

/-- A segment sum of rows at a row where exactly three updates land. -/
theorem three_row {N C M w : Nat} {t : FTy} (d : ScatterDims (shape2 N C) (shape2 M 1) (shape2 M C))
    (huw : d.updateWindowDims = [1]) (hiw : d.insertedWindowDims = [0]) (hsd : d.scatterDimsToOperandDims = [0])
    (hivd : d.indexVectorDim = 1) (x : FVec Ideal (shape2 N C) t) (idx : IVec (shape2 M 1) w)
    (upd : FVec Ideal (shape2 M C) t) (n : Fin N) (z : Fin C) (e1 e2 e3 : Fin M) (h12 : e1 ≠ e2) (h13 : e1 ≠ e3) (h23 : e2 ≠ e3)
    (hp : ∀ e : Fin M, (idx (ix2 e (0 : Fin 1))).toInt = (n.val : Int) ↔ e = e1 ∨ e = e2 ∨ e = e3) :
    Host.scatterAdd d x idx upd (ix2 n z) = (x (ix2 n z) + (upd (ix2 e1 z) + upd (ix2 e2 z) + upd (ix2 e3 z)) : EReal) :=
  (segment_row d huw hiw hsd hivd x idx upd n z).trans
    (congrArg (fun s : EReal => x (ix2 n z) + s) (sum_three e1 e2 e3 h12 h13 h23 _ hp fun e => upd (ix2 e z)))

/-- A segment sum of scalars at a place where exactly three updates land. -/
theorem three_one {N M w : Nat} {t : FTy} (d : ScatterDims (shape1 N) (shape2 M 1) (shape1 M))
    (huw : d.updateWindowDims = []) (hiw : d.insertedWindowDims = [0]) (hsd : d.scatterDimsToOperandDims = [0])
    (hivd : d.indexVectorDim = 1) (x : FVec Ideal (shape1 N) t) (idx : IVec (shape2 M 1) w)
    (upd : FVec Ideal (shape1 M) t) (n : Fin N) (e1 e2 e3 : Fin M) (h12 : e1 ≠ e2) (h13 : e1 ≠ e3) (h23 : e2 ≠ e3)
    (hp : ∀ e : Fin M, (idx (ix2 e (0 : Fin 1))).toInt = (n.val : Int) ↔ e = e1 ∨ e = e2 ∨ e = e3) :
    Host.scatterAdd d x idx upd (ix1 n) = (x (ix1 n) + (upd (ix1 e1) + upd (ix1 e2) + upd (ix1 e3)) : EReal) :=
  (segment_one d huw hiw hsd hivd x idx upd n).trans
    (congrArg (fun s : EReal => x (ix1 n) + s) (sum_three e1 e2 e3 h12 h13 h23 _ hp fun e => upd (ix1 e)))

end Cert.Land

end
-- ==== Proof.Fused.lean ====
/-
  The same function as the kernel arranges it, for one graph, as plain functions: the encoder's output against one table
  that holds the neighbourhood average, the bias and the first weights; a sum with the rows one node away; eight chunks
  of 128 lanes against a block-diagonal table; the lanes folded by halves; the classifier with the mean's factor inside
  its table. `out_eq` says that with the tables read out this is Spec's function.
-/
module

public import proofs.«01_k».proof.Proof.Spec
public import proofs.«01_k».proof.Proof.Land
public import Mathlib.Tactic.Abel

@[expose] public section

noncomputable section

namespace Cert.Fused

open Idealize.ShloMosaic

/-- The first layer at lane `c`: the product with the table's first 64 rows and its last row, cut off at zero. -/
def lane (a : Fin 64 → EReal) (e1 : Fin 65 → Fin 1024 → EReal) (c : Fin 1024) : EReal :=
  max (∑ i : Fin 64, a i * e1 ⟨i.val, by have := i.isLt; omega⟩ c + e1 64 c) 0

/-- The lane sixteen before, around the end. -/
def back (c : Fin 1024) : Fin 1024 := ⟨(c.val + 1008) % 1024, Nat.mod_lt _ (by decide)⟩

/-- The lane sixteen after, around the end. -/
def fwd (c : Fin 1024) : Fin 1024 := ⟨(c.val + 16) % 1024, Nat.mod_lt _ (by decide)⟩

/-- A lane and the two sixteen away. -/
def near (r : Fin 1024 → EReal) (c : Fin 1024) : EReal := r (back c) + r c + r (fwd c)

/-- Lane `x` of chunk `c`. -/
def inChunk (c : Fin 8) (x : Fin 128) : Fin 1024 := ⟨128 * c.val + x.val, by have := c.isLt; have := x.isLt; omega⟩

/-- The second layer on chunk `c` at lane `l` of its 256 results. -/
def chunk (g : Fin 1024 → EReal) (w2 : Fin 128 → Fin 256 → EReal) (b2 : Fin 256 → EReal) (c : Fin 8) (l : Fin 256) : EReal :=
  max (∑ x, g (inChunk c x) * w2 x l + b2 l) 0

/-- The chunks' sum, folded once: lanes `l` and `128 + l`. -/
def folded (h : Fin 8 → Fin 256 → EReal) (l : Fin 128) : EReal :=
  ∑ c, (h c ⟨l.val, by have := l.isLt; omega⟩ + h c ⟨128 + l.val, by have := l.isLt; omega⟩)

/-- The lanes folded twice more, to 32. -/
def pooled (p : Fin 128 → EReal) (k : Fin 32) : EReal :=
  p ⟨k.val, by have := k.isLt; omega⟩ + p ⟨64 + k.val, by have := k.isLt; omega⟩
    + (p ⟨32 + k.val, by have := k.isLt; omega⟩ + p ⟨64 + (32 + k.val), by have := k.isLt; omega⟩)

/-- The classifier without the mean's factor. -/
def classify (p : Fin 32 → EReal) (wc1 : Fin 32 → Fin 16 → EReal) (bc1 : Fin 16 → EReal) (wc2 : Fin 16 → Fin 10 → EReal)
    (bc2 : Fin 10 → EReal) (q : Fin 10) : EReal :=
  ∑ j, max (∑ k, p k * wc1 k j + bc1 j) 0 * wc2 j q + bc2 q

/-- The kernel's arrangement at class `q`. -/
def out (a : Fin 64 → EReal) (e1 : Fin 65 → Fin 1024 → EReal) (w2 : Fin 128 → Fin 256 → EReal) (b2 : Fin 256 → EReal)
    (wc1 : Fin 32 → Fin 16 → EReal) (bc1 : Fin 16 → EReal) (wc2 : Fin 16 → Fin 10 → EReal) (bc2 : Fin 10 → EReal) (q : Fin 10) : EReal :=
  classify (pooled (folded (chunk (near (lane a e1)) w2 b2))) wc1 bc1 wc2 bc2 q

/-! ## Extended reals -/

/-- A real factor distributes over a sum with a real. -/
theorem add_mul_real (x : EReal) (s r : ℝ) : (x + (s : EReal)) * (r : EReal) = x * (r : EReal) + ((s * r : ℝ) : EReal) := by
  induction x with
  | coe x => rw [← EReal.coe_add, ← EReal.coe_mul, ← EReal.coe_mul, ← EReal.coe_add, add_mul]
  | bot =>
    rw [EReal.bot_add]
    rcases lt_trichotomy r 0 with h | h | h
    · rw [EReal.bot_mul_coe_of_neg h, EReal.top_add_coe]
    · subst h; simp
    · rw [EReal.bot_mul_coe_of_pos h, EReal.bot_add]
  | top =>
    rw [EReal.top_add_coe]
    rcases lt_trichotomy r 0 with h | h | h
    · rw [EReal.top_mul_coe_of_neg h, EReal.bot_add]
    · subst h; simp
    · rw [EReal.top_mul_coe_of_pos h, EReal.top_add_coe]

/-- A real factor that is not negative distributes over a finite sum. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

/-! ## The first layer -/

/-- The three-node neighbourhood of `n` as a table row: one third at the node and its neighbours. -/
def avg (i n : Fin 64) : EReal := if i = Ring.prv n ∨ i = Ring.nxt n ∨ i = n then Spec.third else 0

/-- A node's two neighbours differ. -/
theorem prv_ne_nxt : ∀ n : Fin 64, Ring.prv n ≠ Ring.nxt n := by decide +kernel
/-- The node before is another node. -/
theorem prv_ne : ∀ n : Fin 64, Ring.prv n ≠ n := by decide +kernel
/-- The node after is another node. -/
theorem nxt_ne : ∀ n : Fin 64, Ring.nxt n ≠ n := by decide +kernel

/-- A sum against a row of the average has three terms. -/
theorem sum_avg (n : Fin 64) (f : Fin 64 → EReal → EReal) (hf : ∀ i, f i 0 = 0) :
    ∑ i, f i (avg i n) = f (Ring.prv n) Spec.third + f (Ring.nxt n) Spec.third + f n Spec.third := by
  have h : ∀ i, f i (avg i n) = if i = Ring.prv n ∨ i = Ring.nxt n ∨ i = n then f i Spec.third else 0 := fun i => by
    unfold avg
    split
    · rfl
    · exact hf i
  simp only [h]
  rw [← Finset.sum_filter]
  exact Land.sum_three _ _ _ (prv_ne_nxt n) (prv_ne n) (nxt_ne n) _ (fun _ => Iff.rfl) fun i => f i Spec.third

/-- The fused table gives the first layer: the bias goes through the average and the weight because both are real. -/
theorem lane_eq (a be : Fin 64 → EReal) (w b1 : Fin 16 → EReal) (hbe : ∀ v, ∃ r : ℝ, be v = r) (hw : ∀ z, ∃ r : ℝ, w z = r)
    (e1 : Fin 65 → Fin 1024 → EReal) (c : Fin 1024) (n : Fin 64) (z : Fin 16)
    (he : ∀ i : Fin 64, e1 ⟨i.val, by have := i.isLt; omega⟩ c = avg i n * w z)
    (hl : e1 64 c = (∑ i, avg i n * be i) * w z + b1 z) :
    lane a e1 c = Spec.first a be w b1 n z := by
  obtain ⟨w', hw'⟩ := hw z
  obtain ⟨p, hp⟩ := hbe (Ring.prv n)
  obtain ⟨x, hx⟩ := hbe (Ring.nxt n)
  obtain ⟨y, hy⟩ := hbe n
  unfold lane Spec.first
  simp only [he]
  rw [hl, sum_avg n (fun i s => a i * (s * w z)) (fun i => by rw [zero_mul, mul_zero]),
    sum_avg n (fun i s => s * be i) (fun i => zero_mul _), hw', hp, hx, hy]
  have ht : ∀ (u : EReal) (s : ℝ), (u + (s : EReal)) * (w' : EReal) * Spec.third = u * (Spec.third * (w' : EReal)) + ((s * (1 / 3 * w') : ℝ) : EReal) := fun u s => by
    unfold Spec.third
    rw [mul_assoc, ← EReal.coe_mul, ← EReal.coe_mul, mul_comm w', add_mul_real]
  have hb : (Spec.third * (p : EReal) + Spec.third * (x : EReal) + Spec.third * (y : EReal)) * (w' : EReal)
      = ((p * (1 / 3 * w') : ℝ) : EReal) + ((x * (1 / 3 * w') : ℝ) : EReal) + ((y * (1 / 3 * w') : ℝ) : EReal) := by
    unfold Spec.third
    rw [← EReal.coe_mul, ← EReal.coe_mul, ← EReal.coe_mul, ← EReal.coe_add, ← EReal.coe_add, ← EReal.coe_mul, ← EReal.coe_add, ← EReal.coe_add]
    congr 1
    ring
  rw [ht, ht, ht, hb]
  congr 1
  abel

/-! ## The second layer -/

/-- Lane `16 n + z`. -/
def at16 (n : Fin 64) (z : Fin 16) : Fin 1024 := ⟨n.val * 16 + z.val, by have := n.isLt; have := z.isLt; omega⟩

/-- Sixteen lanes before node `n`'s feature lies the same feature of the node before. -/
theorem back_at16 (n : Fin 64) (z : Fin 16) : back (at16 n z) = at16 (Ring.prv n) z :=
  Fin.ext (by have := n.isLt; have := z.isLt; simp only [back, at16, Ring.prv]; omega)

/-- Sixteen lanes after node `n`'s feature lies the same feature of the node after. -/
theorem fwd_at16 (n : Fin 64) (z : Fin 16) : fwd (at16 n z) = at16 (Ring.nxt n) z :=
  Fin.ext (by have := n.isLt; have := z.isLt; simp only [fwd, at16, Ring.nxt]; omega)

/-- A sum over the 128 lanes of a chunk against a block-diagonal column has sixteen terms. -/
theorem sum_block (f : Fin 128 → EReal) (w : Fin 16 → EReal) (u : Fin 8) (t : EReal) (d : Fin 128 → EReal)
    (hd : ∀ (x : Fin 8) (z : Fin 16), d (finProdFinEquiv (x, z)) = (if x = u then 1 else 0) * w z * t) :
    ∑ x, f x * d x = ∑ z, f (finProdFinEquiv (u, z)) * (w z * t) := by
  rw [← (finProdFinEquiv (m := 8) (n := 16)).sum_comp, Fintype.sum_prod_type, Finset.sum_eq_single u]
  · refine Finset.sum_congr rfl fun z _ => ?_
    rw [hd, if_pos rfl, one_mul]
  · intro x _ hx
    refine Finset.sum_eq_zero fun z _ => ?_
    rw [hd, if_neg hx, zero_mul, zero_mul, mul_zero]
  · exact fun h => absurd (Finset.mem_univ u) h

/-- The node of chunk `c`'s block `u`. -/
def nodeOf (c u : Fin 8) : Fin 64 := ⟨u.val + 8 * c.val, by have := c.isLt; have := u.isLt; omega⟩

/-- Row `(u, z)` of chunk `c` is feature `z` of the chunk's node `u`. -/
theorem inChunk_block (c u : Fin 8) (z : Fin 16) : inChunk c (finProdFinEquiv (u, z)) = at16 (nodeOf c u) z :=
  Fin.ext (by simp only [inChunk, at16, nodeOf, finProdFinEquiv_apply_val]; omega)

/-- A chunk's lane `32 u + k` is the second layer at the chunk's node `u`, feature `k`: what is multiplied is not
    negative, so the sum over the neighbourhood may be taken before the product. -/
theorem chunk_eq (h : Fin 64 → Fin 16 → EReal) (hh : ∀ n z, 0 ≤ h n z) (r : Fin 1024 → EReal) (hr : ∀ n z, r (at16 n z) = h n z)
    (w2 : Fin 16 → Fin 32 → EReal) (b2 : Fin 32 → EReal) (wt : Fin 128 → Fin 256 → EReal) (bt : Fin 256 → EReal)
    (c u : Fin 8) (k : Fin 32) (l : Fin 256) (hb : bt l = b2 k)
    (hw : ∀ (x : Fin 8) (z : Fin 16), wt (finProdFinEquiv (x, z)) l = (if x = u then 1 else 0) * w2 z k * Spec.third) :
    chunk (near r) wt bt c l = Spec.second h w2 b2 (nodeOf c u) k := by
  unfold chunk Spec.second
  rw [sum_block (fun x => near r (inChunk c x)) (fun z => w2 z k) u Spec.third (fun x => wt x l) hw, hb]
  congr 2
  have h3 : ∀ v, (∑ z, h v z * w2 z k) * Spec.third = ∑ z, h v z * (w2 z k * Spec.third) := fun v => by
    unfold Spec.third
    rw [sum_mul_real _ _ _ (by norm_num)]
    exact Finset.sum_congr rfl fun z _ => mul_assoc _ _ _
  rw [h3, h3, h3, ← Finset.sum_add_distrib, ← Finset.sum_add_distrib]
  refine Finset.sum_congr rfl fun z _ => ?_
  rw [inChunk_block]
  unfold near
  rw [back_at16, fwd_at16, hr, hr, hr, EReal.right_distrib_of_nonneg (add_nonneg (hh _ _) (hh _ _)) (hh _ _),
    EReal.right_distrib_of_nonneg (hh _ _) (hh _ _)]
  abel

/-! ## The pooling and the classifier -/

/-- The folds sum over all 64 nodes. -/
theorem pooled_eq (s : Fin 64 → Fin 32 → EReal) (h : Fin 8 → Fin 256 → EReal)
    (hs : ∀ (c u : Fin 8) (k : Fin 32), h c ⟨32 * u.val + k.val, by have := u.isLt; have := k.isLt; omega⟩ = s (nodeOf c u) k) (k : Fin 32) :
    pooled (folded h) k = ∑ v, s v k := by
  have e : ∀ (c u : Fin 8) (m : Nat) (hm : m < 256), m = 32 * u.val + k.val → h c ⟨m, hm⟩ = s (nodeOf c u) k := fun c u m hm he => by
    subst he; exact hs c u k
  have hsum : ∑ v, s v k = ∑ c : Fin 8, ∑ u : Fin 8, s (nodeOf c u) k := by
    rw [← (finProdFinEquiv (m := 8) (n := 8)).sum_comp, Fintype.sum_prod_type]
    rfl
  rw [hsum]
  unfold pooled folded
  rw [← Finset.sum_add_distrib, ← Finset.sum_add_distrib, ← Finset.sum_add_distrib]
  refine Finset.sum_congr rfl fun c _ => ?_
  rw [e c 0 _ _ (by show k.val = 32 * 0 + k.val; omega), e c 4 _ _ (by show 128 + k.val = 32 * 4 + k.val; omega),
    e c 2 _ _ (by show 64 + k.val = 32 * 2 + k.val; omega), e c 6 _ _ (by show 128 + (64 + k.val) = 32 * 6 + k.val; omega),
    e c 1 _ _ (by show 32 + k.val = 32 * 1 + k.val; omega), e c 5 _ _ (by show 128 + (32 + k.val) = 32 * 5 + k.val; omega),
    e c 3 _ _ (by show 64 + (32 + k.val) = 32 * 3 + k.val; omega), e c 7 _ _ (by show 128 + (64 + (32 + k.val)) = 32 * 7 + k.val; omega),
    Fin.sum_univ_eight]
  abel

/-- The mean's factor may stand in the classifier's table. -/
theorem classify_eq (p : Fin 32 → EReal) (wc1 wt : Fin 32 → Fin 16 → EReal) (bc1 : Fin 16 → EReal) (wc2 : Fin 16 → Fin 10 → EReal)
    (bc2 : Fin 10 → EReal) (q : Fin 10) (hw : ∀ k j, wt k j = wc1 k j * Spec.per64) :
    classify p wt bc1 wc2 bc2 q = Spec.classify p wc1 bc1 wc2 bc2 q := by
  unfold classify Spec.classify
  simp only [hw]
  have h : ∀ k j, p k * (wc1 k j * Spec.per64) = p k * Spec.per64 * wc1 k j := fun k j => by
    rw [mul_comm (wc1 k j), mul_assoc]
  simp only [h]

/-- The kernel's arrangement with its tables read out is Spec's function. -/
theorem out_eq (a be : Fin 64 → EReal) (w b1 : Fin 16 → EReal) (w2 : Fin 16 → Fin 32 → EReal) (b2 : Fin 32 → EReal)
    (wc1 : Fin 32 → Fin 16 → EReal) (bc1 : Fin 16 → EReal) (wc2 : Fin 16 → Fin 10 → EReal) (bc2 : Fin 10 → EReal)
    (hbe : ∀ v, ∃ r : ℝ, be v = r) (hw : ∀ z, ∃ r : ℝ, w z = r)
    (e1 : Fin 65 → Fin 1024 → EReal) (wt : Fin 128 → Fin 256 → EReal) (bt : Fin 256 → EReal) (ct : Fin 32 → Fin 16 → EReal)
    (he : ∀ (i n : Fin 64) (z : Fin 16), e1 ⟨i.val, by have := i.isLt; omega⟩ (at16 n z) = avg i n * w z)
    (hl : ∀ (n : Fin 64) (z : Fin 16), e1 64 (at16 n z) = (∑ i, avg i n * be i) * w z + b1 z)
    (hwt : ∀ (x u : Fin 8) (z : Fin 16) (k : Fin 32), wt (finProdFinEquiv (x, z)) ⟨32 * u.val + k.val, by have := u.isLt; have := k.isLt; omega⟩
      = (if x = u then 1 else 0) * w2 z k * Spec.third)
    (hbt : ∀ (u : Fin 8) (k : Fin 32), bt ⟨32 * u.val + k.val, by have := u.isLt; have := k.isLt; omega⟩ = b2 k)
    (hct : ∀ k j, ct k j = wc1 k j * Spec.per64) (q : Fin 10) :
    out a e1 wt bt ct bc1 wc2 bc2 q = Spec.out a be w b1 w2 b2 wc1 bc1 wc2 bc2 q := by
  unfold out Spec.out
  rw [classify_eq _ wc1 ct bc1 wc2 bc2 q hct]
  congr 1
  funext k
  exact pooled_eq (Spec.second (Spec.first a be w b1) w2 b2) _ (fun c u k =>
    chunk_eq (Spec.first a be w b1) (fun _ _ => le_max_right _ _) _
      (fun n z => lane_eq a be w b1 hbe hw e1 _ n z (fun i => he i n z) (hl n z)) w2 b2 wt bt c u k _ (hbt u k) (fun x z => hwt x u z k)) k

end Cert.Fused

end
-- ==== Proof.Body.lean ====
/-
  What one grid point's body computes from its blocks, at one element: the arrangement of Fused.
-/
module

public import proofs.«01_k».proof.Proof.Gen.KernelIdeal.Skeleton
public import proofs.«01_k».proof.Proof.Fused
public import Idealize.ShloMosaic.Lib.Pointwise

@[expose] public section

set_option maxRecDepth 16384

noncomputable section

namespace Cert.Body

open Idealize.ShloMosaic Cert.KernelIdeal Cert.KernelIdeal.Gen

/-- Row `i` of the encoder's product. -/
def enc (x : Vec Ideal S4096x512 .f32) (we : Vec Ideal S512x64 .bf16) (i : Fin 4096) (v : Fin 64) : EReal :=
  ∑ k : Fin 512, (x (ix2 i k) * we (ix2 k v) : EReal)

/-- A matrix as a function of its two indices. -/
def tab {n k : Nat} (a : (⟨2, ![n, k]⟩ : Shape).Idx → EReal) (i : Fin n) (j : Fin k) : EReal := a (ix2 i j)

/-- The lane sixteen before, by cases on the wrap. -/
theorem back_eq (j : Fin 1024) : Fused.back j = if h : j.val < 16 then ⟨1008 + j.val, by omega⟩ else ⟨j.val - 16, by have := j.isLt; omega⟩ := by
  have := j.isLt
  refine Fin.ext ?_
  split <;> simp only [Fused.back] <;> omega

/-- The lane sixteen after, by cases on the wrap. -/
theorem fwd_eq (j : Fin 1024) : Fused.fwd j = if h : j.val < 1008 then ⟨16 + j.val, by omega⟩ else ⟨j.val - 1008, by have := j.isLt; omega⟩ := by
  have := j.isLt
  refine Fin.ext ?_
  split <;> simp only [Fused.fwd] <;> omega

/-- The first layer with its neighbours added. -/
theorem pay2_at (x : Vec Ideal S4096x512 .f32) (we : Vec Ideal S512x64 .bf16) (e1 : Vec Ideal S65x1024 .bf16)
    (i : Fin 4096) (j : Fin 1024) : k0_pay2 x we e1 (ix2 i j) = Fused.near (Fused.lane (enc x we i) (tab e1)) j := by
  pointwise [k0_pay2]
  unfold Fused.near
  rw [back_eq, fwd_eq]
  unfold Fused.lane enc tab
  simp only [Finset.univ_unique, Finset.sum_singleton]
  by_cases h1 : j.val < 16 <;> by_cases h2 : j.val < 1008 <;> simp only [h1, h2, ↓reduceDIte, ↓reduceIte] <;> rfl

/-- The second layer's table passes through the body's reshape to its own shape unchanged. -/
theorem pay3_at (w : Vec Ideal S128x256 .bf16) : k0_pay3 w = w := by
  funext i
  rw [ValueIdx.eq_ix2 i, ← ix2_eq_valueIdx]
  pointwise [k0_pay3]

/-- The second layer's bias passes through the body's reshape to its own shape unchanged. -/
theorem pay4_at (w : Vec Ideal S1x256 .f32) : k0_pay4 w = w := by
  funext i
  rw [ValueIdx.eq_ix2 i, ← ix2_eq_valueIdx]
  pointwise [k0_pay4]

/-- Chunk `c`'s lane `l` before its cut-off, of row `i`. -/
def pre (v21 : FVec Ideal S4096x1024 .bf16) (v23 : FVec Ideal S128x256 .bf16) (v25 : FVec Ideal S1x256 .f32) (i : Fin 4096) (c : Fin 8) (l : Fin 256) : EReal :=
  ∑ x, tab v21 i (Fused.inChunk c x) * tab v23 x l + tab v25 0 l

/-- Chunk `c`'s lanes `l` and `128 + l`, cut off and added. -/
def fold (v21 : FVec Ideal S4096x1024 .bf16) (v23 : FVec Ideal S128x256 .bf16) (v25 : FVec Ideal S1x256 .f32) (i : Fin 4096) (c : Fin 8) (l : Fin 128) : EReal :=
  max (pre v21 v23 v25 i c ⟨l.val, by have := l.isLt; omega⟩) 0 + max (pre v21 v23 v25 i c ⟨128 + l.val, by have := l.isLt; omega⟩) 0

/-- The first chunk's share, begun from zero. -/
theorem pay5_at (x : Vec Ideal S4096x512 .f32) (we : Vec Ideal S512x64 .bf16) (e1 : Vec Ideal S65x1024 .bf16) (w : Vec Ideal S128x256 .bf16) (b : Vec Ideal S1x256 .f32)
    (i : Fin 4096) (l : Fin 128) : k0_pay5 x we e1 w b (ix2 i l) = fold (k0_pay2 x we e1) w b i 0 l := by
  unfold k0_pay5
  rw [pay3_at, pay4_at]
  generalize k0_pay2 x we e1 = v21
  pointwise []
  rfl

/-- The second chunk before its cut-off. -/
theorem pay6_at (x : Vec Ideal S4096x512 .f32) (we : Vec Ideal S512x64 .bf16) (e1 : Vec Ideal S65x1024 .bf16) (w : Vec Ideal S128x256 .bf16) (b : Vec Ideal S1x256 .f32)
    (i : Fin 4096) (l : Fin 256) : k0_pay6 x we e1 w b (ix2 i l) = pre (k0_pay2 x we e1) w b i 1 l := by
  unfold k0_pay6
  rw [pay3_at, pay4_at]
  generalize k0_pay2 x we e1 = v21
  pointwise []
  rfl

/-- The seventh chunk before its cut-off. -/
theorem pay8_at (v21 : FVec Ideal S4096x1024 .bf16) (v23 : FVec Ideal S128x256 .bf16) (v25 : FVec Ideal S1x256 .f32)
    (i : Fin 4096) (l : Fin 256) : k0_pay8 v21 v23 v25 (ix2 i l) = pre v21 v23 v25 i 6 l := by
  pointwise [k0_pay8]
  rfl

/-- The second chunk's share and the next four added. -/
theorem pay7_at (v21 : FVec Ideal S4096x1024 .bf16) (v23 : FVec Ideal S128x256 .bf16) (v25 : FVec Ideal S1x256 .f32) (v36 : FVec Ideal S4096x128 .f32) (v40 : FVec Ideal S4096x256 .f32)
    (i : Fin 4096) (h0 : ∀ l, v36 (ix2 i l) = fold v21 v23 v25 i 0 l) (h1 : ∀ l, v40 (ix2 i l) = pre v21 v23 v25 i 1 l) (l : Fin 128) :
    k0_pay7 v21 v23 v25 v36 v40 (ix2 i l)
      = fold v21 v23 v25 i 0 l + fold v21 v23 v25 i 1 l + fold v21 v23 v25 i 2 l + fold v21 v23 v25 i 3 l + fold v21 v23 v25 i 4 l + fold v21 v23 v25 i 5 l := by
  pointwise [k0_pay7]
  rw [h0, h1, h1]
  rfl

/-- The last two chunks' shares added, the lanes folded to 32, and the classifier. -/
theorem pay1_at (v21 : FVec Ideal S4096x1024 .bf16) (v23 : FVec Ideal S128x256 .bf16) (v25 : FVec Ideal S1x256 .f32) (v86 : FVec Ideal S4096x128 .f32) (v90 : FVec Ideal S4096x256 .f32)
    (wc1 : Vec Ideal S32x16 .f32) (bc1 : Vec Ideal S1x16 .f32) (wc2 : Vec Ideal S16x10 .f32) (bc2 : Vec Ideal S1x10 .f32)
    (i : Fin 4096) (s : Fin 128 → EReal) (h0 : ∀ l, v86 (ix2 i l) = s l) (h1 : ∀ l, v90 (ix2 i l) = pre v21 v23 v25 i 6 l) (q : Fin 10) :
    k0_pay1 v21 v23 v25 v86 v90 wc1 bc1 wc2 bc2 (ix2 i q)
      = Fused.classify (Fused.pooled fun l => s l + fold v21 v23 v25 i 6 l + fold v21 v23 v25 i 7 l) (tab wc1) (tab bc1 0) (tab wc2) (tab bc2 0) q := by
  pointwise [k0_pay1]
  simp only [h0, h1]
  rfl

/-- The body's value at row `i` and class `q`. -/
theorem body_at (x : Vec Ideal S4096x512 .f32) (we : Vec Ideal S512x64 .bf16) (e1 : Vec Ideal S65x1024 .bf16) (w : Vec Ideal S128x256 .bf16) (b : Vec Ideal S1x256 .f32)
    (wc1 : Vec Ideal S32x16 .f32) (bc1 : Vec Ideal S1x16 .f32) (wc2 : Vec Ideal S16x10 .f32) (bc2 : Vec Ideal S1x10 .f32) (i : Fin 4096) (q : Fin 10) :
    k0_pay1 (k0_pay2 x we e1) (k0_pay3 w) (k0_pay4 b)
        (k0_pay7 (k0_pay2 x we e1) (k0_pay3 w) (k0_pay4 b) (k0_pay5 x we e1 w b) (k0_pay6 x we e1 w b))
        (k0_pay8 (k0_pay2 x we e1) (k0_pay3 w) (k0_pay4 b)) wc1 bc1 wc2 bc2 (ix2 i q)
      = Fused.out (enc x we i) (tab e1) (tab w) (tab b 0) (tab wc1) (tab bc1 0) (tab wc2) (tab bc2 0) q := by
  rw [pay3_at, pay4_at, pay1_at _ _ _ _ _ wc1 bc1 wc2 bc2 i _
    (pay7_at _ _ _ _ _ i (pay5_at x we e1 w b i) (pay6_at x we e1 w b i)) (pay8_at _ _ _ i)]
  unfold Fused.out
  congr 2
  funext l
  unfold Fused.folded
  rw [Fin.sum_univ_eight]
  have hp : ∀ c l, max (pre (k0_pay2 x we e1) w b i c l) 0 = Fused.chunk (Fused.near (Fused.lane (enc x we i) (tab e1))) (tab w) (tab b 0) c l := fun c l => by
    unfold pre Fused.chunk
    have : ∀ j, tab (k0_pay2 x we e1) i j = Fused.near (Fused.lane (enc x we i) (tab e1)) j := pay2_at x we e1 i
    simp only [this]
  unfold fold
  simp only [hp]

end Cert.Body

end
-- ==== Proof.Output.lean ====
/-
  What the output array holds after the run: at every element, the arrangement of Fused over the arrays as the region
  finds them.
-/
module

public import proofs.«01_k».proof.Proof.Gen.KernelIdeal.Frame
public import proofs.«01_k».proof.Proof.Body
public import Idealize.ShloMosaic.Lib.Pipeline.ValueKit

@[expose] public section

set_option maxRecDepth 16384

noncomputable section

namespace Cert.Output

open Idealize.ShloMosaic Idealize.ShloMosaic.TcCoe Idealize.SL.Sem Cert.KernelIdeal Cert.KernelIdeal.Gen Cert.Body

/-- Every window's block index: the samples and the result advance with the grid point, every table is whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ t.val < 4 :=
  (by decide +kernel : ∀ t : Fin grid0.N, _)

variable (m : (ℓ : Loc nD τ sig) → Buf (Elt Ideal) ℓ) (c : Dev nD)

/-- The samples' block at a grid point is its 4096 rows of the samples. -/
theorem block0 (t : Fin cfg0.N) (i : Fin 4096) (k : Fin 512) (b : Fin 16384) (hb : b.val = 4096 * t.val + i.val) :
    iblk m c 0 t (ix2 i k) = m ((c : Thread nD τ).loc main_arg0) (ix2 b k) := by
  blk_ext! [iblk, V, idx t]

/-- The block of the encoder's weights is the whole array. -/
theorem block1 (t : Fin cfg0.N) : iblk m c 1 t = V m c main_v0 := by blk_ext! [iblk, idx t]
/-- The block of the first layer's table is the whole array. -/
theorem block2 (t : Fin cfg0.N) : iblk m c 2 t = V m c main_v32 := by blk_ext! [iblk, idx t]
/-- The block of the second layer's table is the whole array. -/
theorem block3 (t : Fin cfg0.N) : iblk m c 3 t = V m c main_v42 := by blk_ext! [iblk, idx t]
/-- The block of the repeated bias is the whole array. -/
theorem block4 (t : Fin cfg0.N) : iblk m c 4 t = V m c main_v46 := by blk_ext! [iblk, idx t]
/-- The block of the classifier's first table is the whole array. -/
theorem block5 (t : Fin cfg0.N) : iblk m c 5 t = V m c main_v48 := by blk_ext! [iblk, idx t]
/-- The block of the classifier's first bias is the whole array. -/
theorem block6 (t : Fin cfg0.N) : iblk m c 6 t = V m c main_v49 := by blk_ext! [iblk, idx t]
/-- The block of the classifier's second table is the whole argument. -/
theorem block7 (t : Fin cfg0.N) : iblk m c 7 t = m ((c : Thread nD τ).loc main_arg10) := by blk_ext! [iblk, V, idx t]
/-- The block of the classifier's second bias is the whole array. -/
theorem block8 (t : Fin cfg0.N) : iblk m c 8 t = V m c main_v50 := by blk_ext! [iblk, idx t]

/-- One element of the result over the arrays the region finds. -/
def result (b : Fin 16384) (q : Fin 10) : EReal :=
  Fused.out (fun v => ∑ k : Fin 512, tab (n := 16384) (k := 512) (m ((c : Thread nD τ).loc main_arg0)) b k
      * tab (n := 512) (k := 64) (V m c main_v0) k v)
    (tab (n := 65) (k := 1024) (V m c main_v32)) (tab (n := 128) (k := 256) (V m c main_v42))
    (tab (n := 1) (k := 256) (V m c main_v46) 0) (tab (n := 32) (k := 16) (V m c main_v48))
    (tab (n := 1) (k := 16) (V m c main_v49) 0) (tab (n := 16) (k := 10) (m ((c : Thread nD τ).loc main_arg10)))
    (tab (n := 1) (k := 10) (V m c main_v50) 0) q

/-- A grid point's encoder row is the encoder's row of its sample. -/
theorem enc_block (t : Fin cfg0.N) (i : Fin 4096) (b : Fin 16384) (hb : b.val = 4096 * t.val + i.val) :
    enc (iblk m c 0 t) (V m c main_v0) i = fun v => ∑ k : Fin 512,
      tab (n := 16384) (k := 512) (m ((c : Thread nD τ).loc main_arg0)) b k * tab (n := 512) (k := 64) (V m c main_v0) k v := by
  funext v
  unfold enc
  exact Finset.sum_congr rfl fun k _ => by rw [block0 m c t i k b hb]; rfl

/-- The body's result over any blocks, at one element. -/
theorem out_at (x : Vec Ideal S4096x512 .f32) (we : Vec Ideal S512x64 .bf16) (e1 : Vec Ideal S65x1024 .bf16) (w : Vec Ideal S128x256 .bf16) (b : Vec Ideal S1x256 .f32)
    (wc1 : Vec Ideal S32x16 .f32) (bc1 : Vec Ideal S1x16 .f32) (wc2 : Vec Ideal S16x10 .f32) (bc2 : Vec Ideal S1x10 .f32) (i : Fin 4096) (q : Fin 10) :
    out0_9 x we e1 w b wc1 bc1 wc2 bc2 (ix2 i q)
      = Fused.out (enc x we i) (tab e1) (tab w) (tab b 0) (tab wc1) (tab bc1 0) (tab wc2) (tab bc2 0) q := by
  unfold_out out0_9
  frame_out
  exact body_at x we e1 w b wc1 bc1 wc2 bc2 i q

/-- What a grid point's body leaves in the output's buffer, at one element. -/
theorem piece (t : Fin cfg0.N) (i : Fin 4096) (q : Fin 10) (b : Fin 16384) (hb : b.val = 4096 * t.val + i.val) :
    out0_9 (iblk m c 0 t) (iblk m c 1 t) (iblk m c 2 t) (iblk m c 3 t) (iblk m c 4 t) (iblk m c 5 t) (iblk m c 6 t)
      (iblk m c 7 t) (iblk m c 8 t) (ix2 i q) = result m c b q := by
  rw [block1, block2, block3, block4, block5, block6, block7, block8, out_at, enc_block m c t i b hb, result]

/-- The output array after the run. -/
theorem final : (dats m 0 c).arrAt 9 cfg0.N = fun y : S16384x10.Idx => result m c (y 0) (y 1) := by
  refine (dats m 0 c).arrAt_eq_of_covers 9 _ (by decide +kernel) fun t hf y => ?_
  blk_simp
  rw [after0_9]
  obtain ⟨i, q, rfl⟩ : ∃ (i : Fin 4096) (q : Fin 10), y = ix2 i q := ⟨y 0, y 1, (ValueIdx.eq_ix2 y).trans (ix2_eq_valueIdx _ _).symm⟩
  have ht := (idx t).2.2.2.2.2.2.2.2.2.2
  have h0 : (((win0_9.blk t).view.emb (ix2 i q) 0 : Fin 16384) : ℕ) = 4096 * t.val + i.val := by
    blk_simp [idx t]
    omega
  have h1 : (win0_9.blk t).view.emb (ix2 i q) 1 = q := by
    refine Fin.ext ?_
    blk_simp [idx t]
  rw [h1]
  exact piece m c t i q _ h0

end Cert.Output
-- ==== Proof.Tables.lean ====
/-
  The arrays the kernel's host program prepares, at one element, as the region finds them: the fused table of the first
  layer, the block-diagonal table of the second, the bias repeated, the classifier's table with the mean's factor, and
  the plain copies.
-/
module

public import proofs.«01_k».proof.Proof.Gen.KernelIdeal.Frame
public import proofs.«01_k».proof.Proof.Fused
public import Idealize.ShloMosaic.Lib.Pointwise
public import Idealize.ShloMosaic.Lib.StableHlo.ReadAt

@[expose] public section

set_option maxRecDepth 16384

noncomputable section

namespace Cert.Tables

open Idealize.ShloMosaic Idealize.ShloMosaic.TcCoe Idealize.SL.Sem Cert.KernelIdeal Cert.KernelIdeal.Gen

/-! ## An indicator from two index words -/

/-- The indicator of `a = n`, as the host program computes it. -/
abbrev ind (a n : Nat) : EReal :=
  FloatOps.uitofp (F := Ideal) FTy.f32 (IntOp.cmpi CmpIPredicate.eq (IntOp.addi (BitVec.ofNat 32 a) 0#32) (BitVec.ofNat 32 n))

/-- The indicator is one where the numbers agree and zero elsewhere. -/
theorem ind_eq (a n : Nat) (ha : a < 4294967296) (hn : n < 4294967296) : ind a n = if a = n then 1 else 0 := by
  have h0 : ∀ b : BitVec 1, FloatOps.uitofp (F := Ideal) FTy.f32 b = ((b.toNat : ℝ) : EReal) := fun _ => rfl
  have hw : IntOp.cmpi CmpIPredicate.eq (IntOp.addi (BitVec.ofNat 32 a) 0#32) (BitVec.ofNat 32 n) = BitVec.ofBool (decide (a = n)) := by
    simp only [IntOp.cmpi, IntOp.addi, BitVec.add_zero]
    congr 1
    rw [Bool.eq_iff_iff, beq_iff_eq, decide_eq_true_iff, ← BitVec.toNat_inj, BitVec.toNat_ofNat, BitVec.toNat_ofNat,
      Nat.mod_eq_of_lt (by omega), Nat.mod_eq_of_lt (by omega)]
  unfold ind
  rw [h0, hw]
  by_cases h : a = n <;> simp [h]

/-- A node is one of another's three neighbours once. -/
theorem count : ∀ i n : Fin 64, ((if i.val = n.val then 1 else 0) + (if (i.val + 63) % 64 = n.val then 1 else 0) + (if (i.val + 1) % 64 = n.val then 1 else 0) : Nat)
    = if i = Ring.prv n ∨ i = Ring.nxt n ∨ i = n then 1 else 0 := by
  decide +kernel

/-- A row of indicators for a node and its two neighbours, over three, is the average's row. -/
theorem row_avg (i n : Fin 64) (p q : Nat) (hp : p = (i.val + 63) % 64) (hq : q = (i.val + 1) % 64) :
    Ideal.div (ind i.val n.val + ind p n.val + ind q n.val) (Ideal.ofBits FTy.f32 1077936128#32) = Fused.avg i n := by
  have hi := i.isLt
  have hn := n.isLt
  rw [Spec.div_three, ind_eq _ _ (by omega) (by omega), ind_eq _ _ (by omega) (by omega), ind_eq _ _ (by omega) (by omega), hp, hq]
  have hc := congrArg (fun k : Nat => ((k : ℝ) : EReal)) (count i n)
  simp only [Nat.cast_add, Nat.cast_ite, Nat.cast_one, Nat.cast_zero, EReal.coe_add, apply_ite (fun r : ℝ => (r : EReal)), EReal.coe_one, EReal.coe_zero] at hc
  rw [hc]
  unfold Fused.avg
  split
  · exact one_mul _
  · exact zero_mul _

/-! ## The arrays -/

variable (m : (ℓ : Loc nD τ sig) → Buf (Elt Ideal) ℓ) (c : Dev nD)

/-- The encoder's weights are copied. -/
theorem v0_at (i : Fin 512) (j : Fin 64) : V m c main_v0 (ix2 i j) = m ((c.tc : Thread nD τ).loc main_arg2) (ix2 i j) := by
  simp only [V, hostOps0, hostOps0_1, hostOps0_2, hostOps0_3, hostOps0_4, hostOps0_5, hostOps0_6, List.flatten_cons, List.flatten_nil, List.append_nil, List.cons_append, List.nil_append]
  repeat after_reads_at
  try rfl

/-- The fused table's row of node `i`: the average's row times the weights. -/
theorem v32_at (i : Fin 64) (j : Fin 1024) :
    V m c main_v32 (ix2 ⟨i.val, by have := i.isLt; omega⟩ j)
      = (Fused.avg i ⟨j.val / 16, by have := j.isLt; omega⟩ * m ((c.tc : Thread nD τ).loc main_arg4) (ix2 0 ⟨j.val % 16, Nat.mod_lt _ (by decide)⟩) : EReal) := by
  have hi := i.isLt
  simp only [V, hostOps0, hostOps0_1, hostOps0_2, hostOps0_3, hostOps0_4, hostOps0_5, hostOps0_6, List.flatten_cons, List.flatten_nil, List.append_nil, List.cons_append, List.nil_append]
  repeat after_reads_at
  refine congrArg (fun s : EReal => s * m ((c.tc : Thread nD τ).loc main_arg4) (ix2 0 ⟨j.val % 16, Nat.mod_lt _ (by decide)⟩)) ?_
  have hj : j.val / 16 < 64 := by have := j.isLt; omega
  by_cases h1 : i.val < 1 <;> by_cases h2 : i.val < 63 <;> simp only [h1, h2, ↓reduceDIte] <;>
    exact row_avg i ⟨j.val / 16, hj⟩ _ _ (by omega) (by omega)

/-- The fused table's last row: the averaged bias times the weights, with the layer's bias. -/
theorem v32_last (j : Fin 1024) :
    V m c main_v32 (ix2 64 j)
      = ((∑ i : Fin 64, Fused.avg i ⟨j.val / 16, by have := j.isLt; omega⟩ * m ((c.tc : Thread nD τ).loc main_arg3) (ix1 i))
          * m ((c.tc : Thread nD τ).loc main_arg4) (ix2 0 ⟨j.val % 16, Nat.mod_lt _ (by decide)⟩)
        + m ((c.tc : Thread nD τ).loc main_arg5) (ix1 ⟨j.val % 16, Nat.mod_lt _ (by decide)⟩) : EReal) := by
  have hj : j.val / 16 < 64 := by have := j.isLt; omega
  rw [Fin.sum_univ_succ]
  simp only [V, hostOps0, hostOps0_1, hostOps0_2, hostOps0_3, hostOps0_4, hostOps0_5, hostOps0_6, List.flatten_cons, List.flatten_nil, List.append_nil, List.cons_append, List.nil_append]
  repeat after_reads_at
  refine congrArg (fun s : EReal => s * m ((c.tc : Thread nD τ).loc main_arg4) (ix2 0 ⟨j.val % 16, Nat.mod_lt _ (by decide)⟩)
    + m ((c.tc : Thread nD τ).loc main_arg5) (ix1 ⟨j.val % 16, Nat.mod_lt _ (by decide)⟩)) ?_
  refine congrArg₂ (fun s t : EReal => s + t) ?_ (Finset.sum_congr rfl fun x _ => ?_)
  · rw [Finset.univ_unique, Finset.sum_singleton]
    exact congrArg (fun s : EReal => s * m ((c.tc : Thread nD τ).loc main_arg3) (ix1 0)) (row_avg 0 ⟨j.val / 16, hj⟩ 63 1 rfl rfl)
  · have hx := x.isLt
    have e : (⟨1 + x.val, by omega⟩ : Fin 64) = x.succ := Fin.ext (by rw [Fin.val_succ]; exact Nat.add_comm 1 x.val)
    rw [← e]
    refine congrArg (fun s : EReal => s * m ((c.tc : Thread nD τ).loc main_arg3) (ix1 ⟨1 + x.val, by omega⟩)) ?_
    by_cases h2 : 1 + x.val < 63 <;> simp only [h2, ↓reduceDIte] <;>
      exact row_avg ⟨1 + x.val, by omega⟩ ⟨j.val / 16, hj⟩ _ _ (by show x.val = (1 + x.val + 63) % 64; omega)
        (by first | (show 1 + (1 + x.val) = (1 + x.val + 1) % 64; omega) | (show 1 + x.val - 63 = (1 + x.val + 1) % 64; omega))

/-- The block-diagonal table. -/
theorem v42_at (i : Fin 128) (j : Fin 256) :
    V m c main_v42 (ix2 i j)
      = ((if i.val / 16 = j.val / 32 then 1 else 0) * m ((c.tc : Thread nD τ).loc main_arg6) (ix2 ⟨i.val % 16, Nat.mod_lt _ (by decide)⟩ ⟨j.val % 32, Nat.mod_lt _ (by decide)⟩) * Spec.third : EReal) := by
  have hi := i.isLt
  have hj := j.isLt
  rw [← ind_eq _ _ (by omega) (by omega), ← Spec.div_three]
  simp only [V, hostOps0, hostOps0_1, hostOps0_2, hostOps0_3, hostOps0_4, hostOps0_5, hostOps0_6, List.flatten_cons, List.flatten_nil, List.append_nil, List.cons_append, List.nil_append]
  repeat after_reads_at
  try rfl

/-- The second layer's bias, repeated. -/
theorem v46_at (j : Fin 256) :
    V m c main_v46 (ix2 0 j) = m ((c.tc : Thread nD τ).loc main_arg7) (ix1 ⟨j.val % 32, Nat.mod_lt _ (by decide)⟩) := by
  simp only [V, hostOps0, hostOps0_1, hostOps0_2, hostOps0_3, hostOps0_4, hostOps0_5, hostOps0_6, List.flatten_cons, List.flatten_nil, List.append_nil, List.cons_append, List.nil_append]
  repeat after_reads_at
  try rfl

/-- The classifier's first table with the mean's factor. -/
theorem v48_at (i : Fin 32) (j : Fin 16) :
    V m c main_v48 (ix2 i j) = (Spec.per64 * m ((c.tc : Thread nD τ).loc main_arg8) (ix2 i j) : EReal) := by
  rw [mul_comm, ← Spec.div_64]
  simp only [V, hostOps0, hostOps0_1, hostOps0_2, hostOps0_3, hostOps0_4, hostOps0_5, hostOps0_6, List.flatten_cons, List.flatten_nil, List.append_nil, List.cons_append, List.nil_append]
  repeat after_reads_at
  try rfl

/-- The classifier's first bias as a row. -/
theorem v49_at (j : Fin 16) : V m c main_v49 (ix2 0 j) = m ((c.tc : Thread nD τ).loc main_arg9) (ix1 j) := by
  simp only [V, hostOps0, hostOps0_1, hostOps0_2, hostOps0_3, hostOps0_4, hostOps0_5, hostOps0_6, List.flatten_cons, List.flatten_nil, List.append_nil, List.cons_append, List.nil_append]
  repeat after_reads_at
  try rfl

/-- The classifier's second bias as a row. -/
theorem v50_at (j : Fin 10) : V m c main_v50 (ix2 0 j) = m ((c.tc : Thread nD τ).loc main_arg11) (ix1 j) := by
  simp only [V, hostOps0, hostOps0_1, hostOps0_2, hostOps0_3, hostOps0_4, hostOps0_5, hostOps0_6, List.flatten_cons, List.flatten_nil, List.append_nil, List.cons_append, List.nil_append]
  repeat after_reads_at
  try rfl

end Cert.Tables

end
-- ==== Proof.PreRead.lean ====
/-
  The precondition read at its elements: the edge list is the ring's, and the encoder's bias and the first layer's weights
  are real numbers.
-/
module

public import proofs.«01_k».proof.Pre_ring_and_finite
public import proofs.«01_k».proof.Proof.Ring
public import Idealize.ShloMosaic.Lib.Pointwise

@[expose] public section

set_option maxRecDepth 16384

noncomputable section

namespace Cert.PreRead

open Idealize.ShloMosaic Cert.Pre_ring_and_finite

/-- The precondition's broadcasts are well formed. -/
theorem facts : Facts where
  bcast_S_S2x128 := by decide
  bcast_S_S64 := by decide
  bcast_S_S1x16 := by decide

variable [Facts] (x : FVec Ideal S16384x512 .f32) (ei : IVec S2x128 32) (we : FVec Ideal S512x64 .f32) (be : FVec Ideal S64 .f32)
  (w : FVec Ideal S1x16 .f32) (b1 : FVec Ideal S16 .f32) (w2 : FVec Ideal S16x32 .f32) (b2 : FVec Ideal S32 .f32)
  (wc1 : FVec Ideal S32x16 .f32) (bc1 : FVec Ideal S16 .f32) (wc2 : FVec Ideal S16x10 .f32) (bc2 : FVec Ideal S10 .f32)

/-- A one-bit comparison for equality that came out one is an equality. -/
theorem eq_of_cmpi {n : Nat} {a b : BitVec n} (h : IntOp.cmpi .eq a b = 1#1) : a = b := by
  by_contra hne
  have : (a == b) = false := by simpa using hne
  simp [IntOp.cmpi, this] at h

/-- The tails of the ring's edges as words. -/
theorem tail_word : ∀ e : Fin 128, IntOp.andi (BitVec.ofNat 32 e.val) 63#32 = BitVec.ofNat 32 (Ring.tail e.val) := by
  decide +kernel

/-- The heads of the ring's edges as words. -/
theorem head_word : ∀ e : Fin 128,
    IntOp.andi (Scalar.select (IntOp.cmpi CmpIPredicate.eq 1#32 0#32) (BitVec.ofNat 32 e.val)
      (Scalar.select (IntOp.cmpi CmpIPredicate.slt (BitVec.ofNat 32 e.val) 64#32)
        (IntOp.addi (BitVec.ofNat 32 e.val) 1#32) (IntOp.subi (BitVec.ofNat 32 e.val) 1#32))) 63#32
      = BitVec.ofNat 32 (Ring.head e.val) := by
  decide +kernel

/-- Under the precondition the word at `(0, e)` is edge `e`'s tail. -/
theorem tails (h : (fn x ei we be w b1 w2 b2 wc1 bc1 wc2 bc2).1 = fun _ => 1#1) (e : Fin 128) :
    ei (ix2 0 e) = BitVec.ofNat 32 (Ring.tail e.val) := by
  have h1 : (fn x ei we be w b1 w2 b2 wc1 bc1 wc2 bc2).1 (ix2 0 e)
      = IntOp.cmpi .eq (ei (ix2 0 e)) (IntOp.andi (BitVec.ofNat 32 e.val) 63#32) := by
    pointwise [fn, fn_part1, fn_where]
  rw [h] at h1
  exact (eq_of_cmpi h1.symm).trans (tail_word e)

/-- Under the precondition the word at `(1, e)` is edge `e`'s head. -/
theorem heads (h : (fn x ei we be w b1 w2 b2 wc1 bc1 wc2 bc2).1 = fun _ => 1#1) (e : Fin 128) :
    ei (ix2 1 e) = BitVec.ofNat 32 (Ring.head e.val) := by
  have h1 : (fn x ei we be w b1 w2 b2 wc1 bc1 wc2 bc2).1 (ix2 1 e)
      = IntOp.cmpi .eq (ei (ix2 1 e)) (IntOp.andi (Scalar.select (IntOp.cmpi CmpIPredicate.eq 1#32 0#32) (BitVec.ofNat 32 e.val)
          (Scalar.select (IntOp.cmpi CmpIPredicate.slt (BitVec.ofNat 32 e.val) 64#32)
            (IntOp.addi (BitVec.ofNat 32 e.val) 1#32) (IntOp.subi (BitVec.ofNat 32 e.val) 1#32))) 63#32) := by
    pointwise [fn, fn_part1, fn_where]
  rw [h] at h1
  exact (eq_of_cmpi h1.symm).trans (head_word e)

/-- An extended real whose absolute value is below the infinity's word is a real. -/
theorem real_of_abs (a : EReal) (h : BitVec.ofBool (decide ((max a (-a) : EReal) < Ideal.ofBits .f32 2139095040#32)) = 1#1) :
    ∃ r : ℝ, a = (r : EReal) := by
  have hb : Ideal.ofBits .f32 2139095040#32 = ⊤ := by simp [Ideal.ofBits, Ideal.ieee]
  rw [hb] at h
  induction a with
  | bot => simp at h
  | coe r => exact ⟨r, rfl⟩
  | top => simp at h

/-- Under the precondition the encoder's bias is real. -/
theorem bias_real (h : (fn x ei we be w b1 w2 b2 wc1 bc1 wc2 bc2).2.1 = fun _ => 1#1) (v : Fin 64) :
    ∃ r : ℝ, be (ix1 v) = (r : EReal) := by
  have h1 : (fn x ei we be w b1 w2 b2 wc1 bc1 wc2 bc2).2.1 (ix1 v)
      = BitVec.ofBool (decide ((FloatOps.absf (be (ix1 v)) : EReal) < Ideal.ofBits FTy.f32 2139095040#32)) := by
    pointwise [fn, fn_part1, fn_where]
  rw [h] at h1
  exact real_of_abs _ h1.symm

/-- Under the precondition the first layer's weights are real. -/
theorem weight_real (h : (fn x ei we be w b1 w2 b2 wc1 bc1 wc2 bc2).2.2 = fun _ => 1#1) (z : Fin 16) :
    ∃ r : ℝ, w (ix2 0 z) = (r : EReal) := by
  have h1 : (fn x ei we be w b1 w2 b2 wc1 bc1 wc2 bc2).2.2 (ix2 0 z)
      = BitVec.ofBool (decide ((FloatOps.absf (w (ix2 0 z)) : EReal) < Ideal.ofBits FTy.f32 2139095040#32)) := by
    pointwise [fn, fn_part1, fn_where]
  rw [h] at h1
  exact real_of_abs _ h1.symm

end Cert.PreRead

end
-- ==== Proof.RefStages.lean ====
/-
  The reference's computed term cut into its stages, each a function of arrays with a name: the two ends of every edge of
  the batched graph, the degrees and their inverse roots, the normalisation of every edge, the two layers, and the
  pooling with the classifier. `result_eq` says that the stages composed are the term the reference's run ends at.
-/
module

public import proofs.«01_k».proof.Proof.Gen.ReferenceIdeal.Run
public import Idealize.ShloMosaic.PureOps.Ideal

@[expose] public section

set_option maxRecDepth 16384

noncomputable section

namespace Cert.RefStages

open Cert.ReferenceIdeal Cert.ReferenceIdeal.Gen Idealize.ShloMosaic Idealize.ShloMosaic.TcCoe Idealize.SL.Sem

/-- The edges of all the graphs: row 0 the sources, row 1 the destinations; graph `b`'s edge `e` stands at `128 b + e`, and
    its ends are the given graph's, moved by `64 b`. -/
def edges (ei : IVec S2x128 32) : IVec S2x2097152 32 :=
  shapeCast _ (transpose S2x16384x128 [0, 2, 1] (addi (broadcastInDim S2x128x16384 ![0, 1, 2] bcast_S2x128x1_S2x128x16384_0_1_2 (broadcastInDim S2x128x1 ![0, 1] bcast_S2x128_S2x128x1_0_1 ei)) (broadcastInDim S2x128x16384 ![0, 1, 2] bcast_S1x1x16384_S2x128x16384_0_1_2 (broadcastInDim S1x1x16384 ![2] bcast_S16384_S1x1x16384_2 (addi (broadcastInDim S16384 ![] bcast_S_S16384 (constantI S_ 32 0#32)) (muli (broadcastInDim S16384 ![] bcast_S_S16384 (constantI S_ 32 64#32)) (iotaInDim S16384 32 0)))))) transposes_S2x128x16384_S2x16384x128_0_2_1) shapeCasts_S2x16384x128_S2x2097152

/-- Every edge's source, a self-loop per node at the end. -/
def src (ei : IVec S2x128 32) : IVec S3145728 32 :=
  concatenate S3145728 0 [⟨S2097152, shapeCast _ (extractStridedSlice S1x2097152 ![0, 0] (edges ei) slices_S2x2097152_S1x2097152_0_0) shapeCasts_S1x2097152_S2097152⟩, ⟨S1048576, iotaInDim S1048576 32 0⟩] concatenates_S2097152_S1048576_S3145728_d0

/-- Every edge's destination, a self-loop per node at the end. -/
def dst (ei : IVec S2x128 32) : IVec S3145728 32 :=
  concatenate S3145728 0 [⟨S2097152, shapeCast _ (extractStridedSlice S1x2097152 ![1, 0] (edges ei) slices_S2x2097152_S1x2097152_1_0) shapeCasts_S1x2097152_S2097152⟩, ⟨S1048576, iotaInDim S1048576 32 0⟩] concatenates_S2097152_S1048576_S3145728_d0

/-- Index words as a column. -/
def col (v : IVec S3145728 32) : IVec S3145728x1 32 := broadcastInDim S3145728x1 ![0] bcast_S3145728_S3145728x1_0 v

/-- Index words with the negative ones counted from the end, as a column. -/
def wrap (v : IVec S3145728 32) : IVec S3145728x1 32 :=
  col (select (cmpi .slt v (broadcastInDim S3145728 ![] bcast_S_S3145728 (constantI S_ 32 0#32))) (addi v (broadcastInDim S3145728 ![] bcast_S_S3145728 (constantI S_ 32 1048576#32))) v)

/-- The number of edges into each node. -/
def deg (ei : IVec S2x128 32) : FVec Ideal S1048576 .f32 :=
  Host.scatterAdd scatter_S1048576_S3145728x1_S3145728_n_0_0_1 (broadcastInDim S1048576 ![] bcast_S_S1048576 (constant S_ .f32 0x00000000#32)) (col (dst ei)) (broadcastInDim S3145728 ![] bcast_S_S3145728 (constant S_ .f32 0x3F800000#32))

/-- The inverse square roots of an array, zero where it is not positive. -/
def invRoot (d : FVec Ideal S1048576 .f32) : FVec Ideal S1048576 .f32 :=
  select (cmpf .ogt d (broadcastInDim S1048576 ![] bcast_S_S1048576 (constant S_ .f32 0x00000000#32))) (Host.divf (broadcastInDim S1048576 ![] bcast_S_S1048576 (constant S_ .f32 0x3F800000#32)) (Host.sqrt d)) (broadcastInDim S1048576 ![] bcast_S_S1048576 (id (constant S_ .f32 0x00000000#32)))

/-- An array over the nodes read at one end of every edge. -/
def pick (a : FVec Ideal S1048576 .f32) (v : IVec S3145728 32) : FVec Ideal S3145728 .f32 :=
  Host.gather gather_S1048576_S3145728x1_S3145728_n_0_n_n_0_1_1 a (wrap v)

/-- Every edge's factor: the product of its two ends' inverse roots. -/
def factor (ei : IVec S2x128 32) : FVec Ideal S3145728 .f32 :=
  mulf (pick (invRoot (deg ei)) (src ei)) (pick (invRoot (deg ei)) (dst ei))

/-- The node features: the encoder's output, one feature per node. -/
def nodes (x : FVec Ideal S16384x512 .f32) (we : FVec Ideal S512x64 .f32) (be : FVec Ideal S64 .f32) : FVec Ideal S1048576x1 .f32 :=
  shapeCast _ (addf (Host.dotGeneral dot_S16384x512_S512x64_S16384x64_1_0_0_1_n_n none x we) (broadcastInDim S16384x64 ![0, 1] bcast_S1x64_S16384x64_0_1 (broadcastInDim S1x64 ![1] bcast_S64_S1x64_1 be))) shapeCasts_S16384x64_S1048576x1

/-- The first layer's features times its weights, per node. -/
def lin1 (h : FVec Ideal S1048576x1 .f32) (w : FVec Ideal S1x16 .f32) : FVec Ideal S1048576x16 .f32 :=
  Host.dotGeneral dot_S1048576x1_S1x16_S1048576x16_1_0_0_1_n_n none h w

/-- Rows over the nodes read at the edges' sources. -/
def pick1 (a : FVec Ideal S1048576x16 .f32) (ei : IVec S2x128 32) : FVec Ideal S3145728x16 .f32 :=
  Host.gather gather_S1048576x16_S3145728x1_S3145728x16_1_0_n_n_0_1_116 a (wrap (src ei))

/-- Rows over the edges, each times its edge's factor. -/
def scale1 (g : FVec Ideal S3145728x16 .f32) (f : FVec Ideal S3145728 .f32) : FVec Ideal S3145728x16 .f32 :=
  mulf g (broadcastInDim S3145728x16 ![0, 1] bcast_S3145728x1_S3145728x16_0_1 (broadcastInDim S3145728x1 ![0] bcast_S3145728_S3145728x1_0 f))

/-- Rows over the edges, summed at the edges' destinations. -/
def collect1 (g : FVec Ideal S3145728x16 .f32) (ei : IVec S2x128 32) : FVec Ideal S1048576x16 .f32 :=
  Host.scatterAdd scatter_S1048576x16_S3145728x1_S3145728x16_1_0_0_1 (broadcastInDim S1048576x16 ![] bcast_S_S1048576x16 (constant S_ .f32 0x00000000#32)) (col (dst ei)) g

/-- The bias added and the negative part cut off, in the first layer. -/
def relu1 (a : FVec Ideal S1048576x16 .f32) (b : FVec Ideal S16 .f32) : FVec Ideal S1048576x16 .f32 :=
  maximumf (addf a (broadcastInDim S1048576x16 ![0, 1] bcast_S1x16_S1048576x16_0_1 (broadcastInDim S1x16 ![1] bcast_S16_S1x16_1 b))) (broadcastInDim S1048576x16 ![] bcast_S_S1048576x16 (constant S_ .f32 0x00000000#32))

/-- The first layer. -/
def layer1 (ei : IVec S2x128 32) (h : FVec Ideal S1048576x1 .f32) (w : FVec Ideal S1x16 .f32) (b : FVec Ideal S16 .f32) : FVec Ideal S1048576x16 .f32 :=
  relu1 (collect1 (scale1 (pick1 (lin1 h w) ei) (factor ei)) ei) b

/-- The second layer's features times its weights, per node. -/
def lin2 (h : FVec Ideal S1048576x16 .f32) (w : FVec Ideal S16x32 .f32) : FVec Ideal S1048576x32 .f32 :=
  Host.dotGeneral dot_S1048576x16_S16x32_S1048576x32_1_0_0_1_n_n none h w

/-- Rows over the nodes read at the edges' sources. -/
def pick2 (a : FVec Ideal S1048576x32 .f32) (ei : IVec S2x128 32) : FVec Ideal S3145728x32 .f32 :=
  Host.gather gather_S1048576x32_S3145728x1_S3145728x32_1_0_n_n_0_1_132 a (wrap (src ei))

/-- Rows over the edges, each times its edge's factor. -/
def scale2 (g : FVec Ideal S3145728x32 .f32) (f : FVec Ideal S3145728 .f32) : FVec Ideal S3145728x32 .f32 :=
  mulf g (broadcastInDim S3145728x32 ![0, 1] bcast_S3145728x1_S3145728x32_0_1 (broadcastInDim S3145728x1 ![0] bcast_S3145728_S3145728x1_0 f))

/-- Rows over the edges, summed at the edges' destinations. -/
def collect2 (g : FVec Ideal S3145728x32 .f32) (ei : IVec S2x128 32) : FVec Ideal S1048576x32 .f32 :=
  Host.scatterAdd scatter_S1048576x32_S3145728x1_S3145728x32_1_0_0_1 (broadcastInDim S1048576x32 ![] bcast_S_S1048576x32 (constant S_ .f32 0x00000000#32)) (col (dst ei)) g

/-- The bias added and the negative part cut off, in the second layer. -/
def relu2 (a : FVec Ideal S1048576x32 .f32) (b : FVec Ideal S32 .f32) : FVec Ideal S1048576x32 .f32 :=
  maximumf (addf a (broadcastInDim S1048576x32 ![0, 1] bcast_S1x32_S1048576x32_0_1 (broadcastInDim S1x32 ![1] bcast_S32_S1x32_1 b))) (broadcastInDim S1048576x32 ![] bcast_S_S1048576x32 (constant S_ .f32 0x00000000#32))

/-- The second layer. -/
def layer2 (ei : IVec S2x128 32) (h : FVec Ideal S1048576x16 .f32) (w : FVec Ideal S16x32 .f32) (b : FVec Ideal S32 .f32) : FVec Ideal S1048576x32 .f32 :=
  relu2 (collect2 (scale2 (pick2 (lin2 h w) ei) (factor ei)) ei) b

/-- Each graph's mean over its nodes, then the classifier's two layers. -/
def head (h : FVec Ideal S1048576x32 .f32) (wc1 : FVec Ideal S32x16 .f32) (bc1 : FVec Ideal S16 .f32) (wc2 : FVec Ideal S16x10 .f32) (bc2 : FVec Ideal S10 .f32) : FVec Ideal S16384x10 .f32 :=
  addf (Host.dotGeneral dot_S16384x16_S16x10_S16384x10_1_0_0_1_n_n none (maximumf (addf (Host.dotGeneral dot_S16384x32_S32x16_S16384x16_1_0_0_1_n_n none (Host.divf (Host.reduceAdd (shapeCast _ h shapeCasts_S1048576x32_S16384x64x32) (constant S_ .f32 0x00000000#32) reducesTo_S16384x64x32_S16384x32_d1 h_S_) (broadcastInDim S16384x32 ![] bcast_S_S16384x32 (constant S_ .f32 0x42800000#32))) wc1) (broadcastInDim S16384x16 ![0, 1] bcast_S1x16_S16384x16_0_1 (broadcastInDim S1x16 ![1] bcast_S16_S1x16_1 bc1))) (broadcastInDim S16384x16 ![] bcast_S_S16384x16 (constant S_ .f32 0x00000000#32))) wc2) (broadcastInDim S16384x10 ![0, 1] bcast_S1x10_S16384x10_0_1 (broadcastInDim S1x10 ![1] bcast_S10_S1x10_1 bc2))

/-- The reference's result is the stages composed. -/
theorem result_eq (m : (ℓ : Loc nD τ sig) → Buf (Elt Ideal) ℓ) (c : Dev nD) :
    Value.res_out0 m c
      = head (layer2 (m ((c.tc : Thread nD τ).loc main_arg1))
          (layer1 (m ((c.tc : Thread nD τ).loc main_arg1))
            (nodes (m ((c.tc : Thread nD τ).loc main_arg0)) (m ((c.tc : Thread nD τ).loc main_arg2)) (m ((c.tc : Thread nD τ).loc main_arg3)))
            (m ((c.tc : Thread nD τ).loc main_arg4)) (m ((c.tc : Thread nD τ).loc main_arg5)))
          (m ((c.tc : Thread nD τ).loc main_arg6)) (m ((c.tc : Thread nD τ).loc main_arg7)))
        (m ((c.tc : Thread nD τ).loc main_arg8)) (m ((c.tc : Thread nD τ).loc main_arg9))
        (m ((c.tc : Thread nD τ).loc main_arg10)) (m ((c.tc : Thread nD τ).loc main_arg11)) := by
  unfold Value.res_out0 Value.res_main_v129
  rfl

end Cert.RefStages

end
-- ==== Proof.RefWords.lean ====
/-
  The reference's index words when the edge list is the ring: every edge's source and destination as a number, and the
  sum and the read that they steer, at one node.
-/
module

public import proofs.«01_k».proof.Proof.RefStages
public import proofs.«01_k».proof.Proof.Ring
public import proofs.«01_k».proof.Proof.Land
public import Idealize.ShloMosaic.Lib.Pointwise
public import Idealize.ShloMosaic.Lib.Routing.OpsSet

@[expose] public section

set_option maxRecDepth 16384

noncomputable section

namespace Cert.RefWords

open Cert.ReferenceIdeal Cert.ReferenceIdeal.Gen Idealize.ShloMosaic Idealize.ShloMosaic.TcCoe Idealize.SL.Sem Cert.RefStages

/-- The edge list is the ring's: the word at `(0, e)` is edge `e`'s tail and the word at `(1, e)` its head. -/
def IsRing (ei : IVec S2x128 32) : Prop :=
  ∀ e : Fin 128, ei (ix2 0 e) = BitVec.ofNat 32 (Ring.tail e.val) ∧ ei (ix2 1 e) = BitVec.ofNat 32 (Ring.head e.val)

/-- A word of the batched list: the ring's word moved by the graph's first node. -/
theorem moved (a q : Nat) : IntOp.addi (BitVec.ofNat 32 a) (IntOp.addi (0#32) (IntOp.muli (64#32) (BitVec.ofNat 32 q)))
    = BitVec.ofNat 32 (a + 64 * q) := by
  simp only [IntOp.addi, IntOp.muli]
  rw [BitVec.zero_add, ← BitVec.ofNat_mul, ← BitVec.ofNat_add]

/-- The source of edge `e` is its tail. -/
theorem src_at (ei : IVec S2x128 32) (h : IsRing ei) (e : Fin 3145728) :
    src ei (ix1 e) = BitVec.ofNat 32 (Ring.all Ring.tail e.val) := by
  pointwise [src, edges]
  unfold Ring.all
  split
  · rw [(h _).1, moved]
  · rfl

/-- The destination of edge `e` is its head. -/
theorem dst_at (ei : IVec S2x128 32) (h : IsRing ei) (e : Fin 3145728) :
    dst ei (ix1 e) = BitVec.ofNat 32 (Ring.all Ring.head e.val) := by
  pointwise [dst, edges]
  unfold Ring.all
  split
  · rw [(h _).2, moved]
  · rfl

/-- A word below the number of nodes stays as it is. -/
theorem wrap_at (v : IVec S3145728 32) (e : Fin 3145728) (n : Nat) (hv : v (ix1 e) = BitVec.ofNat 32 n) (hn : n < 1048576) :
    wrap v (ix2 e 0) = BitVec.ofNat 32 n := by
  pointwise [wrap, col]
  rw [hv]
  exact Routing.wrap_of_lt _ _ (by rw [BitVec.toNat_ofNat]; omega)

/-- The destination column read signed. -/
theorem col_at (ei : IVec S2x128 32) (h : IsRing ei) (e : Fin 3145728) :
    (col (dst ei) (ValueIdx.ix2 e 0)).toInt = Ring.all Ring.head e.val := by
  have h1 : col (dst ei) (ix2 e 0) = dst ei (ix1 e) := by pointwise [col]
  have hl := Ring.all_head_lt e
  rw [← ix2_eq_valueIdx, h1, dst_at ei h, StableHlo.Predicate.toInt_ofNat_small _ (by omega)]

/-- The edges that land at node `v` of graph `b`. -/
theorem lands_at (ei : IVec S2x128 32) (h : IsRing ei) (b : Fin 16384) (v : Fin 64) (e : Fin 3145728) :
    (col (dst ei) (ValueIdx.ix2 e 0)).toInt = ((Ring.node b v).val : Int) ↔ e = Ring.up b v ∨ e = Ring.down b v ∨ e = Ring.loop b v := by
  rw [col_at ei h e]
  exact Int.ofNat_inj.trans (Ring.ends_at b v e)

/-- A node array read at an edge's source. -/
theorem pick_src (ei : IVec S2x128 32) (h : IsRing ei) (a : FVec Ideal S1048576 .f32) (e : Fin 3145728) :
    pick a (src ei) (ix1 e) = a (ix1 ⟨_, Ring.all_tail_lt e⟩) := by
  unfold pick
  rw [ix1_eq_valueIdx, ix1_eq_valueIdx]
  exact Routing.gather_take1 gather_S1048576_S3145728x1_S3145728_n_0_n_n_0_1_1 rfl rfl rfl rfl a (wrap (src ei)) e ⟨_, Ring.all_tail_lt e⟩
    ((congrArg _ (ix2_eq_valueIdx e 0).symm).trans (wrap_at _ e _ (src_at ei h e) (Ring.all_tail_lt e))) (by decide)

/-- A node array read at an edge's destination. -/
theorem pick_dst (ei : IVec S2x128 32) (h : IsRing ei) (a : FVec Ideal S1048576 .f32) (e : Fin 3145728) :
    pick a (dst ei) (ix1 e) = a (ix1 ⟨_, Ring.all_head_lt e⟩) := by
  unfold pick
  rw [ix1_eq_valueIdx, ix1_eq_valueIdx]
  exact Routing.gather_take1 gather_S1048576_S3145728x1_S3145728_n_0_n_n_0_1_1 rfl rfl rfl rfl a (wrap (dst ei)) e ⟨_, Ring.all_head_lt e⟩
    ((congrArg _ (ix2_eq_valueIdx e 0).symm).trans (wrap_at _ e _ (dst_at ei h e) (Ring.all_head_lt e))) (by decide)

/-- First-layer rows read at an edge's source. -/
theorem pick1_at (ei : IVec S2x128 32) (h : IsRing ei) (a : FVec Ideal S1048576x16 .f32) (e : Fin 3145728) (n : Fin 1048576)
    (hn : Ring.all Ring.tail e.val = n.val) (y : Fin 16) : pick1 a ei (ix2 e y) = a (ix2 n y) := by
  unfold pick1
  rw [ix2_eq_valueIdx, ix2_eq_valueIdx]
  exact Routing.gather_row gather_S1048576x16_S3145728x1_S3145728x16_1_0_n_n_0_1_116 rfl rfl rfl rfl rfl a (wrap (src ei)) e y n
    ((congrArg _ (ix2_eq_valueIdx e 0).symm).trans (hn ▸ wrap_at _ e _ (src_at ei h e) (Ring.all_tail_lt e))) (by decide)

/-- Second-layer rows read at an edge's source. -/
theorem pick2_at (ei : IVec S2x128 32) (h : IsRing ei) (a : FVec Ideal S1048576x32 .f32) (e : Fin 3145728) (n : Fin 1048576)
    (hn : Ring.all Ring.tail e.val = n.val) (y : Fin 32) : pick2 a ei (ix2 e y) = a (ix2 n y) := by
  unfold pick2
  rw [ix2_eq_valueIdx, ix2_eq_valueIdx]
  exact Routing.gather_row gather_S1048576x32_S3145728x1_S3145728x32_1_0_n_n_0_1_132 rfl rfl rfl rfl rfl a (wrap (src ei)) e y n
    ((congrArg _ (ix2_eq_valueIdx e 0).symm).trans (hn ▸ wrap_at _ e _ (src_at ei h e) (Ring.all_tail_lt e))) (by decide)

/-- A splat of a constant at an index. -/
theorem splat_zero {s : Shape} (h : S_.BroadcastsInDim s ![]) (i : s.Idx) :
    (broadcastInDim s ![] h (constant S_ .f32 0x00000000#32 : FVec Ideal S_ .f32)) i = (0 : EReal) := by
  exact Ideal.ofBits_zero_f32

/-- The sum at node `v` of graph `b` in the first layer: the rows of the three edges that end there. -/
theorem collect1_at (ei : IVec S2x128 32) (h : IsRing ei) (g : FVec Ideal S3145728x16 .f32) (b : Fin 16384) (v : Fin 64) (z : Fin 16) :
    collect1 g ei (ix2 (Ring.node b v) z)
      = (g (ix2 (Ring.up b v) z) + g (ix2 (Ring.down b v) z) + g (ix2 (Ring.loop b v) z) : EReal) := by
  unfold collect1
  rw [ix2_eq_valueIdx, ix2_eq_valueIdx, ix2_eq_valueIdx, ix2_eq_valueIdx,
    Land.three_row scatter_S1048576x16_S3145728x1_S3145728x16_1_0_0_1 rfl rfl rfl rfl _ (col (dst ei)) g (Ring.node b v) z
      (Ring.up b v) (Ring.down b v) (Ring.loop b v) (Ring.up_ne_down b v) (Ring.up_ne_loop b v) (Ring.down_ne_loop b v) (lands_at ei h b v),
    splat_zero, zero_add]

/-- The sum at node `v` of graph `b` in the second layer: the rows of the three edges that end there. -/
theorem collect2_at (ei : IVec S2x128 32) (h : IsRing ei) (g : FVec Ideal S3145728x32 .f32) (b : Fin 16384) (v : Fin 64) (z : Fin 32) :
    collect2 g ei (ix2 (Ring.node b v) z)
      = (g (ix2 (Ring.up b v) z) + g (ix2 (Ring.down b v) z) + g (ix2 (Ring.loop b v) z) : EReal) := by
  unfold collect2
  rw [ix2_eq_valueIdx, ix2_eq_valueIdx, ix2_eq_valueIdx, ix2_eq_valueIdx,
    Land.three_row scatter_S1048576x32_S3145728x1_S3145728x32_1_0_0_1 rfl rfl rfl rfl _ (col (dst ei)) g (Ring.node b v) z
      (Ring.up b v) (Ring.down b v) (Ring.loop b v) (Ring.up_ne_down b v) (Ring.up_ne_loop b v) (Ring.down_ne_loop b v) (lands_at ei h b v),
    splat_zero, zero_add]

/-- A splat of one at an index. -/
theorem splat_one {s : Shape} (h : S_.BroadcastsInDim s ![]) (i : s.Idx) :
    (broadcastInDim s ![] h (constant S_ .f32 0x3F800000#32 : FVec Ideal S_ .f32)) i = ((1 : ℝ) : EReal) := by
  exact Ideal.ofBits_one_f32

/-- Every node's degree is three. -/
theorem deg_at (ei : IVec S2x128 32) (h : IsRing ei) (b : Fin 16384) (v : Fin 64) :
    deg ei (ix1 (Ring.node b v)) = ((3 : ℝ) : EReal) := by
  unfold deg
  rw [ix1_eq_valueIdx, Land.three_one scatter_S1048576_S3145728x1_S3145728_n_0_0_1 rfl rfl rfl rfl _ (col (dst ei)) _ (Ring.node b v)
      (Ring.up b v) (Ring.down b v) (Ring.loop b v) (Ring.up_ne_down b v) (Ring.up_ne_loop b v) (Ring.down_ne_loop b v) (lands_at ei h b v),
    splat_zero, zero_add, splat_one, splat_one, splat_one, ← EReal.coe_add, ← EReal.coe_add]
  norm_num

end Cert.RefWords

end
-- ==== Proof.RefValue.lean ====
/-
  What the reference computes when the edge list is the ring: each stage at one element, and the whole at one element as
  the function of Spec.
-/
module

public import proofs.«01_k».proof.Proof.RefWords
public import proofs.«01_k».proof.Proof.Spec

@[expose] public section

set_option maxRecDepth 16384

noncomputable section

namespace Cert.RefValue

open Cert.ReferenceIdeal Cert.ReferenceIdeal.Gen Idealize.ShloMosaic Idealize.ShloMosaic.TcCoe Idealize.SL.Sem Cert.RefStages Cert.RefWords

/-- A node is a graph and a place in it. -/
theorem node_split (n : Fin 1048576) :
    n = Ring.node ⟨n.val / 64, by have := n.isLt; omega⟩ ⟨n.val % 64, Nat.mod_lt _ (by decide)⟩ :=
  Fin.ext (by simp only [Ring.node]; omega)

/-- The inverse root of three. -/
theorem invRoot_at (d : FVec Ideal S1048576 .f32) (n : Fin 1048576) (hd : d (ix1 n) = ((3 : ℝ) : EReal)) :
    invRoot d (ix1 n) = ((1 / Real.sqrt 3 : ℝ) : EReal) := by
  have h : invRoot d (ix1 n) = if (0 : EReal) < d (ix1 n) then Ideal.div 1 (Ideal.sqrt (d (ix1 n))) else (id (constant S_ .f32 0#32 : FVec Ideal S_ .f32)) ix0 := by
    pointwise [invRoot]
  rw [h, hd, if_pos (by exact_mod_cast (by norm_num : (0 : ℝ) < 3))]
  have hs : Ideal.sqrt ((3 : ℝ) : EReal) = ((Real.sqrt 3 : ℝ) : EReal) := by
    show (if (3 : ℝ) < 0 then (⊥ : EReal) else (Real.sqrt 3 : EReal)) = _
    rw [if_neg (by norm_num)]
  rw [hs, Spec.div_real _ _ (by positivity), one_mul]

/-- A product of arrays at an index. -/
theorem mulf_at (a b : FVec Ideal S3145728 .f32) (i : S3145728.Idx) : mulf a b i = (a i * b i : EReal) := rfl

/-- Every edge's factor is one third. -/
theorem factor_at (ei : IVec S2x128 32) (h : IsRing ei) (e : Fin 3145728) : factor ei (ix1 e) = Spec.third := by
  have hn : ∀ n, invRoot (deg ei) (ix1 n) = ((1 / Real.sqrt 3 : ℝ) : EReal) := fun n =>
    invRoot_at _ n (by rw [node_split n]; exact deg_at ei h _ _)
  unfold factor
  rw [mulf_at, pick_src ei h, pick_dst ei h, hn, hn, ← EReal.coe_mul]
  unfold Spec.third
  congr 1
  rw [div_mul_div_comm, Real.mul_self_sqrt (by norm_num), one_mul]

/-- The node features at node `v` of graph `b`. -/
theorem nodes_at (x : FVec Ideal S16384x512 .f32) (we : FVec Ideal S512x64 .f32) (be : FVec Ideal S64 .f32) (b : Fin 16384) (v : Fin 64) :
    nodes x we be (ix2 (Ring.node b v) 0) = (∑ k, x (ix2 b k) * we (ix2 k v) + be (ix1 v) : EReal) := by
  have h : ∀ n : Fin 1048576, nodes x we be (ix2 n 0)
      = (∑ k, x (ix2 (⟨n.val / 64, by have := n.isLt; omega⟩ : Fin 16384) k) * we (ix2 k (⟨n.val % 64, Nat.mod_lt _ (by decide)⟩ : Fin 64)) + be (ix1 (⟨n.val % 64, Nat.mod_lt _ (by decide)⟩ : Fin 64)) : EReal) := fun n => by
    pointwise [nodes]
  have hb : (⟨(Ring.node b v).val / 64, by have := (Ring.node b v).isLt; omega⟩ : Fin 16384) = b :=
    Fin.ext (by have := v.isLt; simp only [Ring.node]; omega)
  have hv : (⟨(Ring.node b v).val % 64, Nat.mod_lt _ (by decide)⟩ : Fin 64) = v :=
    Fin.ext (by have := v.isLt; simp only [Ring.node]; omega)
  rw [h, hb, hv]

/-- The first linear map is one product. -/
theorem lin1_at (h : FVec Ideal S1048576x1 .f32) (w : FVec Ideal S1x16 .f32) (n : Fin 1048576) (z : Fin 16) :
    lin1 h w (ix2 n z) = (h (ix2 n 0) * w (ix2 0 z) : EReal) := by
  have h1 : lin1 h w (ix2 n z) = (∑ k : Fin 1, h (ix2 n k) * w (ix2 k z) : EReal) := by
    pointwise [lin1]
  rw [h1, Fin.sum_univ_one]

/-- The second linear map. -/
theorem lin2_at (h : FVec Ideal S1048576x16 .f32) (w : FVec Ideal S16x32 .f32) (n : Fin 1048576) (z : Fin 32) :
    lin2 h w (ix2 n z) = (∑ k, h (ix2 n k) * w (ix2 k z) : EReal) := by
  pointwise [lin2]

/-- The first layer's messages: the gathered row times the edge's factor. -/
theorem scale1_at (g : FVec Ideal S3145728x16 .f32) (f : FVec Ideal S3145728 .f32) (e : Fin 3145728) (z : Fin 16) :
    scale1 g f (ix2 e z) = (g (ix2 e z) * f (ix1 e) : EReal) := by
  pointwise [scale1]

/-- The second layer's messages: the gathered row times the edge's factor. -/
theorem scale2_at (g : FVec Ideal S3145728x32 .f32) (f : FVec Ideal S3145728 .f32) (e : Fin 3145728) (z : Fin 32) :
    scale2 g f (ix2 e z) = (g (ix2 e z) * f (ix1 e) : EReal) := by
  pointwise [scale2]

/-- The first layer's bias and rectifier at one element. -/
theorem relu1_at (a : FVec Ideal S1048576x16 .f32) (b : FVec Ideal S16 .f32) (n : Fin 1048576) (z : Fin 16) :
    relu1 a b (ix2 n z) = (max (a (ix2 n z) + b (ix1 z)) 0 : EReal) := by
  pointwise [relu1]

/-- The second layer's bias and rectifier at one element. -/
theorem relu2_at (a : FVec Ideal S1048576x32 .f32) (b : FVec Ideal S32 .f32) (n : Fin 1048576) (z : Fin 32) :
    relu2 a b (ix2 n z) = (max (a (ix2 n z) + b (ix1 z)) 0 : EReal) := by
  pointwise [relu2]

/-- The first layer at one node and feature. -/
theorem layer1_at (ei : IVec S2x128 32) (hr : IsRing ei) (h : FVec Ideal S1048576x1 .f32) (w : FVec Ideal S1x16 .f32) (b1 : FVec Ideal S16 .f32)
    (a be : Fin 64 → EReal) (b : Fin 16384) (hh : ∀ v, h (ix2 (Ring.node b v) 0) = a v + be v) (v : Fin 64) (z : Fin 16) :
    layer1 ei h w b1 (ix2 (Ring.node b v) z) = Spec.first a be (fun z => w (ix2 0 z)) (fun z => b1 (ix1 z)) v z := by
  unfold layer1
  rw [relu1_at, collect1_at ei hr, scale1_at, scale1_at, scale1_at, factor_at ei hr, factor_at ei hr, factor_at ei hr,
    pick1_at ei hr _ _ _ (Ring.tail_up b v), pick1_at ei hr _ _ _ (Ring.tail_down b v), pick1_at ei hr _ _ _ (Ring.tail_loop b v),
    lin1_at, lin1_at, lin1_at, hh, hh, hh]
  rfl

/-- The second layer at one node and feature. -/
theorem layer2_at (ei : IVec S2x128 32) (hr : IsRing ei) (h : FVec Ideal S1048576x16 .f32) (w : FVec Ideal S16x32 .f32) (b2 : FVec Ideal S32 .f32)
    (f : Fin 64 → Fin 16 → EReal) (b : Fin 16384) (hh : ∀ v z, h (ix2 (Ring.node b v) z) = f v z) (v : Fin 64) (k : Fin 32) :
    layer2 ei h w b2 (ix2 (Ring.node b v) k) = Spec.second f (fun j k => w (ix2 j k)) (fun k => b2 (ix1 k)) v k := by
  unfold layer2
  rw [relu2_at, collect2_at ei hr, scale2_at, scale2_at, scale2_at, factor_at ei hr, factor_at ei hr, factor_at ei hr,
    pick2_at ei hr _ _ _ (Ring.tail_up b v), pick2_at ei hr _ _ _ (Ring.tail_down b v), pick2_at ei hr _ _ _ (Ring.tail_loop b v),
    lin2_at, lin2_at, lin2_at]
  simp only [hh]
  rfl

/-- The mean and the classifier at one graph and class. -/
theorem head_at (h : FVec Ideal S1048576x32 .f32) (wc1 : FVec Ideal S32x16 .f32) (bc1 : FVec Ideal S16 .f32) (wc2 : FVec Ideal S16x10 .f32)
    (bc2 : FVec Ideal S10 .f32) (b : Fin 16384) (g : Fin 64 → Fin 32 → EReal) (hg : ∀ v k, h (ix2 (Ring.node b v) k) = g v k) (q : Fin 10) :
    RefStages.head h wc1 bc1 wc2 bc2 (ix2 b q)
      = Spec.classify (fun k => ∑ v, g v k) (fun k j => wc1 (ix2 k j)) (fun j => bc1 (ix1 j)) (fun j q => wc2 (ix2 j q)) (fun q => bc2 (ix1 q)) q := by
  have hn : ∀ v : Fin 64, (⟨b.val * 64 + v.val, by have := b.isLt; have := v.isLt; omega⟩ : Fin 1048576) = Ring.node b v := fun v =>
    Fin.ext (by simp only [Ring.node]; omega)
  have h1 : RefStages.head h wc1 bc1 wc2 bc2 (ix2 b q)
      = (∑ j : Fin 16, max (∑ k : Fin 32, Ideal.div (∑ v : Fin 64, h (ix2 (⟨b.val * 64 + v.val, by have := b.isLt; have := v.isLt; omega⟩ : Fin 1048576) k)) (Ideal.ofBits .f32 1115684864#32) * wc1 (ix2 k j) + bc1 (ix1 j)) 0 * wc2 (ix2 j q) + bc2 (ix1 q) : EReal) := by
    pointwise [RefStages.head]
  rw [h1]
  simp only [hn, hg, Spec.div_64]
  rfl

/-- The reference's result at graph `b` and class `q` is the function of Spec. -/
theorem result_at (ei : IVec S2x128 32) (hr : IsRing ei) (x : FVec Ideal S16384x512 .f32) (we : FVec Ideal S512x64 .f32) (be : FVec Ideal S64 .f32)
    (w : FVec Ideal S1x16 .f32) (b1 : FVec Ideal S16 .f32) (w2 : FVec Ideal S16x32 .f32) (b2 : FVec Ideal S32 .f32)
    (wc1 : FVec Ideal S32x16 .f32) (bc1 : FVec Ideal S16 .f32) (wc2 : FVec Ideal S16x10 .f32) (bc2 : FVec Ideal S10 .f32) (b : Fin 16384) (q : Fin 10) :
    RefStages.head (layer2 ei (layer1 ei (nodes x we be) w b1) w2 b2) wc1 bc1 wc2 bc2 (ix2 b q)
      = Spec.out (fun v => ∑ k : Fin 512, (x (ix2 b k) * we (ix2 k v) : EReal)) (fun v => be (ix1 v)) (fun z => w (ix2 0 z)) (fun z => b1 (ix1 z))
          (fun j k => w2 (ix2 j k)) (fun k => b2 (ix1 k)) (fun k j => wc1 (ix2 k j)) (fun j => bc1 (ix1 j)) (fun j q => wc2 (ix2 j q))
          (fun q => bc2 (ix1 q)) q :=
  head_at _ wc1 bc1 wc2 bc2 b _ (fun v k => layer2_at ei hr _ w2 b2 _ b
    (fun v z => layer1_at ei hr _ w b1 _ _ b (fun v => nodes_at x we be b v) v z) v k) q

end Cert.RefValue

end
-- ==== Proof.Equation.lean ====
/-
  The equation: under the precondition, every element of the kernel's result is the plain mathematics of Spec over the
  arguments, and so the reference's.
-/
module

public import proofs.«01_k».proof.Defs
public import proofs.«01_k».proof.Proof.Output
public import proofs.«01_k».proof.Proof.Tables
public import proofs.«01_k».proof.Proof.PreRead
public import proofs.«01_k».proof.Proof.RefValue

@[expose] public section

set_option maxRecDepth 16384

noncomputable section

namespace Cert.Equation

open Idealize.ShloMosaic Idealize.SL.Sem Cert.KernelIdeal Cert.KernelIdeal.Gen Cert.Body

section kernel

variable (m : (ℓ : Loc nD τ sig) → Buf (Elt Ideal) ℓ) (c : Dev nD)

/-- An argument array as a vector of extended reals. -/
abbrev row {n : Nat} (a : (⟨1, ![n]⟩ : Shape).Idx → EReal) (i : Fin n) : EReal := a (ix1 i)

/-- With the encoder's bias and the first layer's weights real, one element of the kernel's result is the mathematics of
    Spec over the arguments. -/
theorem kernel_at (hbe : ∀ v : Fin 64, ∃ r : ℝ, row (n := 64) (m ((c.tc : Thread nD τ).loc main_arg3)) v = r)
    (hw : ∀ z : Fin 16, ∃ r : ℝ, tab (n := 1) (k := 16) (m ((c.tc : Thread nD τ).loc main_arg4)) 0 z = r)
    (b : Fin 16384) (q : Fin 10) :
    Output.result m c b q
      = Spec.out (fun v => ∑ k : Fin 512, tab (n := 16384) (k := 512) (m ((c.tc : Thread nD τ).loc main_arg0)) b k
            * tab (n := 512) (k := 64) (m ((c.tc : Thread nD τ).loc main_arg2)) k v)
          (row (n := 64) (m ((c.tc : Thread nD τ).loc main_arg3))) (tab (n := 1) (k := 16) (m ((c.tc : Thread nD τ).loc main_arg4)) 0)
          (row (n := 16) (m ((c.tc : Thread nD τ).loc main_arg5))) (tab (n := 16) (k := 32) (m ((c.tc : Thread nD τ).loc main_arg6)))
          (row (n := 32) (m ((c.tc : Thread nD τ).loc main_arg7))) (tab (n := 32) (k := 16) (m ((c.tc : Thread nD τ).loc main_arg8)))
          (row (n := 16) (m ((c.tc : Thread nD τ).loc main_arg9))) (tab (n := 16) (k := 10) (m ((c.tc : Thread nD τ).loc main_arg10)))
          (row (n := 10) (m ((c.tc : Thread nD τ).loc main_arg11))) q := by
  have e0 : tab (n := 512) (k := 64) (V m c main_v0) = tab (n := 512) (k := 64) (m ((c.tc : Thread nD τ).loc main_arg2)) :=
    funext fun i => funext fun j => Tables.v0_at m c i j
  have e49 : tab (n := 1) (k := 16) (V m c main_v49) 0 = row (n := 16) (m ((c.tc : Thread nD τ).loc main_arg9)) :=
    funext fun j => Tables.v49_at m c j
  have e50 : tab (n := 1) (k := 10) (V m c main_v50) 0 = row (n := 10) (m ((c.tc : Thread nD τ).loc main_arg11)) :=
    funext fun j => Tables.v50_at m c j
  have hn : ∀ (n : Fin 64) (z : Fin 16) (h : (Fused.at16 n z).val / 16 < 64), (⟨(Fused.at16 n z).val / 16, h⟩ : Fin 64) = n :=
    fun n z h => Fin.ext (by have := z.isLt; simp only [Fused.at16]; omega)
  have hz : ∀ (n : Fin 64) (z : Fin 16) (h : (Fused.at16 n z).val % 16 < 16), (⟨(Fused.at16 n z).val % 16, h⟩ : Fin 16) = z :=
    fun n z h => Fin.ext (by have := z.isLt; simp only [Fused.at16]; omega)
  have hk : ∀ (u : Fin 8) (k : Fin 32) (h : (32 * u.val + k.val) % 32 < 32), (⟨(32 * u.val + k.val) % 32, h⟩ : Fin 32) = k :=
    fun u k h => Fin.ext (by have := k.isLt; simp only; omega)
  rw [Output.result, e0, e49, e50]
  refine Fused.out_eq _ _ _ _ _ _ _ _ _ _ hbe hw _ _ _ _ (fun i n z => ?_) (fun n z => ?_) (fun x u z k => ?_) (fun u k => ?_)
    (fun k j => ?_) q
  · have h := Tables.v32_at m c i (Fused.at16 n z)
    rw [hn, hz] at h
    exact h
  · have h := Tables.v32_last m c (Fused.at16 n z)
    rw [hz] at h
    simp only [hn] at h
    exact h
  · have h := Tables.v42_at m c (finProdFinEquiv (x, z)) ⟨32 * u.val + k.val, by have := u.isLt; have := k.isLt; omega⟩
    rw [hk] at h
    have hx : (⟨(finProdFinEquiv (x, z) : Fin 128).val % 16, Nat.mod_lt _ (by decide)⟩ : Fin 16) = z :=
      Fin.ext (by have := z.isLt; simp only [finProdFinEquiv_apply_val]; omega)
    have hc : ((finProdFinEquiv (x, z) : Fin 128).val / 16 = (32 * u.val + k.val) / 32) = (x = u) :=
      propext (Iff.trans (by have := z.isLt; have := k.isLt; rw [finProdFinEquiv_apply_val]; simp only; omega) Fin.ext_iff.symm)
    rw [hx] at h
    simp only [hc] at h
    exact h
  · have h := Tables.v46_at m c ⟨32 * u.val + k.val, by have := u.isLt; have := k.isLt; omega⟩
    rw [hk] at h
    exact h
  · exact (Tables.v48_at m c k j).trans (mul_comm Spec.per64 (tab (n := 32) (k := 16) (m ((c.tc : Thread nD τ).loc main_arg8)) k j))

end kernel

/-- Under the precondition, from memories that agree on the arguments, the kernel's output array is the reference's
    result. -/
theorem equation (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hp : Pre_KernelIdeal_ring_and_finite (hPre_ring_and_finite := Cert.PreRead.facts) m)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11)) :
    (dats m 0 c).arrAt 9 cfg0.N = Cert.ReferenceIdeal.Value.res_main_v129 m' c := by
  letI : Cert.Pre_ring_and_finite.Facts := Cert.PreRead.facts
  obtain ⟨p0, p1, p2⟩ := hp c
  refine (Output.final m c).trans (Eq.trans ?_ (RefStages.result_eq m' c).symm)
  rw [h0, h1, h2, h3, h4, h5, h6, h7, h8, h9, h10, h11]
  funext y
  obtain ⟨b, q, rfl⟩ : ∃ (b : Fin 16384) (q : Fin 10), y = ix2 b q := ⟨y 0, y 1, (ValueIdx.eq_ix2 y).trans (ix2_eq_valueIdx _ _).symm⟩
  have hr : RefWords.IsRing (m ((c.tc : Thread nD τ).loc main_arg1)) := fun e =>
    ⟨PreRead.tails _ _ _ _ _ _ _ _ _ _ _ _ p0 e, PreRead.heads _ _ _ _ _ _ _ _ _ _ _ _ p0 e⟩
  refine Eq.trans (kernel_at m c (fun v => PreRead.bias_real _ _ _ _ _ _ _ _ _ _ _ _ p1 v)
    (fun z => PreRead.weight_real _ _ _ _ _ _ _ _ _ _ _ _ p2 z) b q) ?_
  exact (RefValue.result_at _ hr _ _ _ _ _ _ _ _ _ _ _ b q).symm

end Cert.Equation
-- ==== Proof.lean ====
/-
  The certificate: the three frames, the idealization, and the equation of the kernel and the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel as it runs: it terminates without a fault, its arguments unchanged, every counter at zero. -/
theorem frame_kernel : Cert.quiescent_Kernel (hKernel := Cert.Kernel.Gen.facts) := fun m ρ _ => Cert.Kernel.Gen.frame m ρ

/-- The same of the kernel over the extended reals. -/
theorem frame_ideal : Cert.quiescent_KernelIdeal (hKernelIdeal := Cert.KernelIdeal.Gen.facts) :=
  fun m ρ _ => Cert.KernelIdeal.Gen.frame m ρ

/-- The same under the precondition. -/
theorem frame_ideal_pre : Cert.quiescent_KernelIdeal_pre_ring_and_finite (hKernelIdeal := Cert.KernelIdeal.Gen.facts)
    (hPre_ring_and_finite := Cert.PreRead.facts) :=
  fun m ρ _ => Cert.KernelIdeal.Gen.frame m ρ

/-- The same of the reference: its run leaves the arguments, and it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The same under the precondition. -/
theorem frame_reference_pre : Cert.quiescent_ReferenceIdeal_pre_ring_and_finite (hReferenceIdeal := Cert.ReferenceIdeal.Gen.facts)
    (hPre_ring_and_finite := Cert.PreRead.facts) := fun m ρ _ =>
  (θ_run Cert.ReferenceIdeal.defs _ _).mono (fun r h => ⟨fun c => (h c).2, sem_eq_zero_of_no_sems (by decide) r.2⟩)
    (Cert.ReferenceIdeal.Value.run m ρ)

/-- Under the precondition, the kernel and the reference over the extended reals end with the same result. -/
theorem value : Cert.algebraic_KernelIdeal_ReferenceIdeal_pre_ring_and_finite (hKernelIdeal := Cert.KernelIdeal.Gen.facts)
    (hReferenceIdeal := Cert.ReferenceIdeal.Gen.facts) (hPre_ring_and_finite := Cert.PreRead.facts) := by
  intro m g m' g' hp ha
  refine ⟨fun c => Cert.ReferenceIdeal.Value.res_main_v129 m' c, ?_, Cert.ReferenceIdeal.Value.run m' g'⟩
  refine (θ_run Cert.KernelIdeal.defs _ _).mono (fun r h c => ⟨(h c).1.trans ?_, (h c).2⟩) (Cert.KernelIdeal.Value.run_blocks m g)
  obtain ⟨h0, h1, h2, h3, h4, h5, h6, h7, h8, h9, h10, h11⟩ := ha c
  exact Cert.Equation.equation m m' c hp h0 h1 h2 h3 h4 h5 h6 h7 h8 h9 h10 h11

/-- Every claim of the certificate. -/
theorem claim : Cert.Claim := ⟨Cert.Kernel.Gen.facts, Cert.KernelIdeal.Gen.facts, Cert.ReferenceIdeal.Gen.facts, Cert.PreRead.facts,
  frame_kernel, frame_ideal, frame_ideal_pre, frame_reference, frame_reference_pre, trivial, value⟩

end Cert.Proof

end
